-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 4096, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![1, 4096, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  bcast_S_S1024x1024 : S_.BroadcastsInDim S1024x1024 (![] : Fin 0 → Fin S1024x1024.rank)

variable [Facts]

def fn {F : FTy → Type} [FloatOps F] (main_arg0 : FVec F S1x512x1024 .bf16) (main_arg1 : FVec F S1024x1024 .bf16) (main_arg2 : FVec F S1024x1024 .bf16) (main_arg3 : FVec F S1024x1024 .bf16) (main_arg4 : FVec F S1024x1024 .bf16) : IVec S1x512x1024 1 × IVec S1024x1024 1 × IVec S1024x1024 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg3
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  (main_v3, main_v7, main_v11)
-- ==== Pre_finite_ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S_ : Shape := ⟨0, ![]⟩

class Facts : Prop where
  bitsLt_bf16_f32 : FTy.bits .bf16 < FTy.bits .f32
  bcast_S_S1x4096x1024 : S_.BroadcastsInDim S1x4096x1024 (![] : Fin 0 → Fin S1x4096x1024.rank)
  bcast_S_S1024x8192 : S_.BroadcastsInDim S1024x8192 (![] : Fin 0 → Fin S1024x8192.rank)

variable [Facts]

def fn {F : FTy → Type} [FloatOps F] (main_arg0 : FVec F S1x4096x1024 .bf16) (main_arg1 : FVec F S1024x8192 .bf16) (main_arg2 : FVec F S8192x1024 .bf16) (main_arg3 : FVec F S1024x8192 .bf16) (main_arg4 : FVec F S1024x8192 .bf16) : IVec S1x4096x1024 1 × IVec S1024x8192 1 × IVec S1024x8192 1 :=
  let main_v0 : FVec F S1x4096x1024 .f32 := (extf .f32 · bitsLt_bf16_f32) main_arg0
  let main_v1 : FVec F S1x4096x1024 .f32 := Host.absf main_v0
  let main_cst : FVec F S_ .f32 := constant S_ .f32 0x7F800000#32
  let main_v2 : FVec F S1x4096x1024 .f32 := broadcastInDim S1x4096x1024 ![] bcast_S_S1x4096x1024 main_cst
  let main_v3 : IVec S1x4096x1024 1 := cmpf .olt main_v1 main_v2
  let main_v4 : FVec F S1024x8192 .f32 := (extf .f32 · bitsLt_bf16_f32) main_arg1
  let main_v5 : FVec F S1024x8192 .f32 := Host.absf main_v4
  let main_cst_0 : FVec F S_ .f32 := constant S_ .f32 0x7F800000#32
  let main_v6 : FVec F S1024x8192 .f32 := broadcastInDim S1024x8192 ![] bcast_S_S1024x8192 main_cst_0
  let main_v7 : IVec S1024x8192 1 := cmpf .olt main_v5 main_v6
  let main_v8 : FVec F S1024x8192 .f32 := (extf .f32 · bitsLt_bf16_f32) main_arg3
  let main_v9 : FVec F S1024x8192 .f32 := Host.absf main_v8
  let main_cst_1 : FVec F S_ .f32 := constant S_ .f32 0x7F800000#32
  let main_v10 : FVec F S1024x8192 .f32 := broadcastInDim S1024x8192 ![] bcast_S_S1024x8192 main_cst_1
  let main_v11 : IVec S1024x8192 1 := cmpf .olt main_v9 main_v10
  (main_v3, main_v7, main_v11)
-- ==== Kernel.lean ====
abbrev S1x512x1024 : Shape := ⟨3, ![1, 512, 1024]⟩
abbrev S1024x1024 : Shape := ⟨2, ![1024, 1024]⟩
abbrev S8x512x1024 : Shape := ⟨3, ![8, 512, 1024]⟩
abbrev S4096x1024 : Shape := ⟨2, ![4096, 1024]⟩
abbrev S7x512x1024 : Shape := ⟨3, ![7, 512, 1024]⟩
abbrev S512x1024 : Shape := ⟨2, ![512, 1024]⟩
abbrev S4 : Shape := ⟨1, ![4]⟩
abbrev S3 : Shape := ⟨1, ![3]⟩
abbrev S7 : Shape := ⟨1, ![7]⟩
abbrev S_ : Shape := ⟨0, ![]⟩
abbrev S1 : Shape := ⟨1, ![1]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S8x512x1024, .bf16⟩
  | .local _ .vmem, ⟨7, _⟩ => ⟨S4096x1024, .bf16⟩
  | .local _ .vmem, ⟨8, _⟩ => ⟨S4096x1024, .bf16⟩
  | .local _ .vmem, ⟨9, _⟩ => ⟨S7x512x1024, .bf16⟩
  | .local _ .vmem, ⟨10, _⟩ => ⟨S512x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_21 : Index := 0#32
  let c0_22 : Index := 0#32
  ![v32.toNat, 0, 0]
def k0_off2 (d0 : Dev nD) (c0_i32_23 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.subi v2 c0_i32_23
  let c8_i32_24 : BitVec 32 := 8#32
  let c0_i32_25 : BitVec 32 := 0#32
  let v37 : BitVec 1 := Scalar.cmpi .eq c8_i32_24 c0_i32_25
  let c1_i32_26 : BitVec 32 := 1#32
  let v38 : BitVec 32 := Scalar.select v37 c1_i32_26 c8_i32_24
  let v39 : BitVec 32 := Scalar.remsi v36 v38
  let c0_i32_28 : BitVec 32 := 0#32
  let v41 : BitVec 1 := Scalar.cmpi .slt v39 c0_i32_28
  let c0_i32_29 : BitVec 32 := 0#32
  let v42 : BitVec 1 := Scalar.cmpi .slt v38 c0_i32_29
  let v43 : BitVec 1 := Scalar.xori v41 v42
  let c0_i32_27 : BitVec 32 := 0#32
  let v40 : BitVec 1 := Scalar.cmpi .ne v39 c0_i32_27
  let v44 : BitVec 1 := Scalar.andi v43 v40
  let v45 : BitVec 32 := Scalar.addi v39 v38
  let v46 : BitVec 32 := Scalar.select v44 v45 v39
  let c0_i32_34 : BitVec 32 := 0#32
  let c0_i32_35 : BitVec 32 := 0#32
  ![v46.toNat, 0, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v47 : BitVec 32 := Scalar.muli v24 c1_i32_32
  let v48 : BitVec 32 := Scalar.addi c0_i32_33 v47
  v48.toNat
def k0_off3 (d0 : Dev nD) (c0_i32_38 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.addi v2 c0_i32_38
  let c8_i32_39 : BitVec 32 := 8#32
  let c0_i32_40 : BitVec 32 := 0#32
  let v58 : BitVec 1 := Scalar.cmpi .eq c8_i32_39 c0_i32_40
  let c1_i32_41 : BitVec 32 := 1#32
  let v59 : BitVec 32 := Scalar.select v58 c1_i32_41 c8_i32_39
  let v60 : BitVec 32 := Scalar.remsi v57 v59
  let c0_i32_43 : BitVec 32 := 0#32
  let v62 : BitVec 1 := Scalar.cmpi .slt v60 c0_i32_43
  let c0_i32_44 : BitVec 32 := 0#32
  let v63 : BitVec 1 := Scalar.cmpi .slt v59 c0_i32_44
  let v64 : BitVec 1 := Scalar.xori v62 v63
  let c0_i32_42 : BitVec 32 := 0#32
  let v61 : BitVec 1 := Scalar.cmpi .ne v60 c0_i32_42
  let v65 : BitVec 1 := Scalar.andi v64 v61
  let v66 : BitVec 32 := Scalar.addi v60 v59
  let v67 : BitVec 32 := Scalar.select v65 v66 v60
  let c0_i32_49 : BitVec 32 := 0#32
  let c0_i32_50 : BitVec 32 := 0#32
  ![v67.toNat, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_47 : BitVec 32 := 1#32
  let v68 : BitVec 32 := Scalar.muli v13 c1_i32_47
  let v69 : BitVec 32 := Scalar.addi c0_i32_48 v68
  v69.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v85 : BitVec 32 := Scalar.muli v2 c512_i32
  let v86 : Index := Scalar.indexCast v85
  let c0_57 : Index := 0#32
  ![v86.toNat, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_102 : BitVec 32 := 1#32
  let v138 : BitVec 32 := Scalar.muli v24 c1_i32_102
  let v139 : BitVec 32 := Scalar.addi c0_i32_103 v138
  v139.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_117 : BitVec 32 := 1#32
  let v159 : BitVec 32 := Scalar.muli v13 c1_i32_117
  let v160 : BitVec 32 := Scalar.addi c0_i32_118 v159
  v160.toNat
def k0_off5 (d0 : Dev nD) (c1_i32_123 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v169 : BitVec 32 := Scalar.subi v2 c1_i32_123
  let c8_i32_124 : BitVec 32 := 8#32
  let c0_i32_125 : BitVec 32 := 0#32
  let v170 : BitVec 1 := Scalar.cmpi .eq c8_i32_124 c0_i32_125
  let c1_i32_126 : BitVec 32 := 1#32
  let v171 : BitVec 32 := Scalar.select v170 c1_i32_126 c8_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let v180 : Index := Scalar.indexCast v179
  let c0_130 : Index := 0#32
  let c0_131 : Index := 0#32
  ![v180.toNat, 0, 0]
def k0_off6 (d0 : Dev nD) (c1_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v169 : BitVec 32 := Scalar.subi v2 c1_i32_123
  let c8_i32_124 : BitVec 32 := 8#32
  let c0_i32_125 : BitVec 32 := 0#32
  let v170 : BitVec 1 := Scalar.cmpi .eq c8_i32_124 c0_i32_125
  let c1_i32_126 : BitVec 32 := 1#32
  let v171 : BitVec 32 := Scalar.select v170 c1_i32_126 c8_i32_124
  let v172 : BitVec 32 := Scalar.remsi v169 v171
  let c0_i32_128 : BitVec 32 := 0#32
  let v174 : BitVec 1 := Scalar.cmpi .slt v172 c0_i32_128
  let c0_i32_129 : BitVec 32 := 0#32
  let v175 : BitVec 1 := Scalar.cmpi .slt v171 c0_i32_129
  let v176 : BitVec 1 := Scalar.xori v174 v175
  let c0_i32_127 : BitVec 32 := 0#32
  let v173 : BitVec 1 := Scalar.cmpi .ne v172 c0_i32_127
  let v177 : BitVec 1 := Scalar.andi v176 v173
  let v178 : BitVec 32 := Scalar.addi v172 v171
  let v179 : BitVec 32 := Scalar.select v177 v178 v172
  let c512_i32_135 : BitVec 32 := 512#32
  let v187 : BitVec 32 := Scalar.muli v179 c512_i32_135
  let v188 : Index := Scalar.indexCast v187
  let c0_136 : Index := 0#32
  ![v188.toNat, 0]
def k0_off7 (d0 : Dev nD) (c1_i32_142 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v201 : BitVec 32 := Scalar.addi v2 c1_i32_142
  let c8_i32_143 : BitVec 32 := 8#32
  let c0_i32_144 : BitVec 32 := 0#32
  let v202 : BitVec 1 := Scalar.cmpi .eq c8_i32_143 c0_i32_144
  let c1_i32_145 : BitVec 32 := 1#32
  let v203 : BitVec 32 := Scalar.select v202 c1_i32_145 c8_i32_143
  let v204 : BitVec 32 := Scalar.remsi v201 v203
  let c0_i32_147 : BitVec 32 := 0#32
  let v206 : BitVec 1 := Scalar.cmpi .slt v204 c0_i32_147
  let c0_i32_148 : BitVec 32 := 0#32
  let v207 : BitVec 1 := Scalar.cmpi .slt v203 c0_i32_148
  let v208 : BitVec 1 := Scalar.xori v206 v207
  let c0_i32_146 : BitVec 32 := 0#32
  let v205 : BitVec 1 := Scalar.cmpi .ne v204 c0_i32_146
  let v209 : BitVec 1 := Scalar.andi v208 v205
  let v210 : BitVec 32 := Scalar.addi v204 v203
  let v211 : BitVec 32 := Scalar.select v209 v210 v204
  let v212 : Index := Scalar.indexCast v211
  let c0_149 : Index := 0#32
  let c0_150 : Index := 0#32
  ![v212.toNat, 0, 0]
def k0_off8 (d0 : Dev nD) (c1_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v201 : BitVec 32 := Scalar.addi v2 c1_i32_142
  let c8_i32_143 : BitVec 32 := 8#32
  let c0_i32_144 : BitVec 32 := 0#32
  let v202 : BitVec 1 := Scalar.cmpi .eq c8_i32_143 c0_i32_144
  let c1_i32_145 : BitVec 32 := 1#32
  let v203 : BitVec 32 := Scalar.select v202 c1_i32_145 c8_i32_143
  let v204 : BitVec 32 := Scalar.remsi v201 v203
  let c0_i32_147 : BitVec 32 := 0#32
  let v206 : BitVec 1 := Scalar.cmpi .slt v204 c0_i32_147
  let c0_i32_148 : BitVec 32 := 0#32
  let v207 : BitVec 1 := Scalar.cmpi .slt v203 c0_i32_148
  let v208 : BitVec 1 := Scalar.xori v206 v207
  let c0_i32_146 : BitVec 32 := 0#32
  let v205 : BitVec 1 := Scalar.cmpi .ne v204 c0_i32_146
  let v209 : BitVec 1 := Scalar.andi v208 v205
  let v210 : BitVec 32 := Scalar.addi v204 v203
  let v211 : BitVec 32 := Scalar.select v209 v210 v204
  let c512_i32_154 : BitVec 32 := 512#32
  let v219 : BitVec 32 := Scalar.muli v211 c512_i32_154
  let v220 : Index := Scalar.indexCast v219
  let c0_155 : Index := 0#32
  ![v220.toNat, 0]
def k0_dev7 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_200 : BitVec 32 := 1#32
  let v272 : BitVec 32 := Scalar.muli v24 c1_i32_200
  let v273 : BitVec 32 := Scalar.addi c0_i32_201 v272
  v273.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v293 : BitVec 32 := Scalar.muli v13 c1_i32_215
  let v294 : BitVec 32 := Scalar.addi c0_i32_216 v293
  v294.toNat
def k0_dev9 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v406 : BitVec 32 := Scalar.muli v24 c1_i32_297
  let v407 : BitVec 32 := Scalar.addi c0_i32_298 v406
  v407.toNat
@[reducible] def k0_t1_loop : Scf.Loop 32 :=
  let c0_i32_374 : BitVec 32 := 0#32
  let c8_i32_375 : BitVec 32 := 8#32
  let v526 : BitVec 32 := Scalar.addi c0_i32_374 c8_i32_375
  let c1_i32_376 : BitVec 32 := 1#32
  ⟨c0_i32_374, v526, c1_i32_376⟩
def k0_off9 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_378 : BitVec 32 := 1#32
  let v527 : BitVec 32 := Scalar.subi v2 c1_i32_378
  let c0_i32_374 : BitVec 32 := 0#32
  let c1_i32_376 : BitVec 32 := 1#32
  let arg17 : BitVec 32 := Scf.iv c0_i32_374 c1_i32_376 k0_t1
  let v528 : BitVec 32 := Scalar.subi v527 arg17
  let c8_i32_379 : BitVec 32 := 8#32
  let c0_i32_380 : BitVec 32 := 0#32
  let v529 : BitVec 1 := Scalar.cmpi .eq c8_i32_379 c0_i32_380
  let c1_i32_381 : BitVec 32 := 1#32
  let v530 : BitVec 32 := Scalar.select v529 c1_i32_381 c8_i32_379
  let v531 : BitVec 32 := Scalar.remsi v528 v530
  let c0_i32_383 : BitVec 32 := 0#32
  let v533 : BitVec 1 := Scalar.cmpi .slt v531 c0_i32_383
  let c0_i32_384 : BitVec 32 := 0#32
  let v534 : BitVec 1 := Scalar.cmpi .slt v530 c0_i32_384
  let v535 : BitVec 1 := Scalar.xori v533 v534
  let c0_i32_382 : BitVec 32 := 0#32
  let v532 : BitVec 1 := Scalar.cmpi .ne v531 c0_i32_382
  let v536 : BitVec 1 := Scalar.andi v535 v532
  let v537 : BitVec 32 := Scalar.addi v531 v530
  let v538 : BitVec 32 := Scalar.select v536 v537 v531
  let v539 : Index := Scalar.indexCast v538
  let c0_385 : Index := 0#32
  let c0_386 : Index := 0#32
  ![v539.toNat, 0, 0]
def k0_cond1 (k0_t1 : Fin k0_t1_loop.trips) : BitVec 1 :=
  let c0_i32_374 : BitVec 32 := 0#32
  let c1_i32_376 : BitVec 32 := 1#32
  let arg17 : BitVec 32 := Scf.iv c0_i32_374 c1_i32_376 k0_t1
  let c0_i32_445 : BitVec 32 := 0#32
  let v658 : BitVec 1 := Scalar.cmpi .sgt arg17 c0_i32_445
  let v659 : BitVec 32 := Scalar.extui v658
  let c0_i32_446 : BitVec 32 := 0#32
  let v660 : BitVec 1 := Scalar.cmpi .ne v659 c0_i32_446
  v660

def k0_off10 (k0_t1 : Fin k0_t1_loop.trips) : Fin 1 → Nat :=
  let c0_i32_374 : BitVec 32 := 0#32
  let c1_i32_376 : BitVec 32 := 1#32
  let arg17 : BitVec 32 := Scf.iv c0_i32_374 c1_i32_376 k0_t1
  let c1_i32_443 : BitVec 32 := 1#32
  let v656 : BitVec 32 := Scalar.subi arg17 c1_i32_443
  let c0_i32_444 : BitVec 32 := 0#32
  let v657 : BitVec 32 := Scalar.maxsi v656 c0_i32_444
  ![v657.toNat]
def k0_off11 (k0_t1 : Fin k0_t1_loop.trips) : Fin 3 → Nat :=
  let c0_i32_374 : BitVec 32 := 0#32
  let c1_i32_376 : BitVec 32 := 1#32
  let arg17 : BitVec 32 := Scf.iv c0_i32_374 c1_i32_376 k0_t1
  let c1_i32_443 : BitVec 32 := 1#32
  let v656 : BitVec 32 := Scalar.subi arg17 c1_i32_443
  let c0_i32_444 : BitVec 32 := 0#32
  let v657 : BitVec 32 := Scalar.maxsi v656 c0_i32_444
  let c0_i32_455 : BitVec 32 := 0#32
  let c0_i32_456 : BitVec 32 := 0#32
  ![v657.toNat, 0, 0]
def k0_off12 (k0_t1 : Fin k0_t1_loop.trips) : Fin 3 → Nat :=
  let c0_i32_374 : BitVec 32 := 0#32
  let c1_i32_376 : BitVec 32 := 1#32
  let arg17 : BitVec 32 := Scf.iv c0_i32_374 c1_i32_376 k0_t1
  let c1_i32_443 : BitVec 32 := 1#32
  let v656 : BitVec 32 := Scalar.subi arg17 c1_i32_443
  let c0_i32_444 : BitVec 32 := 0#32
  let v657 : BitVec 32 := Scalar.maxsi v656 c0_i32_444
  let v661 : Index := Scalar.indexCast v657
  let c0_447 : Index := 0#32
  let c0_448 : Index := 0#32
  ![v661.toNat, 0, 0]
def k0_cond2 (k0_t1 : Fin k0_t1_loop.trips) : BitVec 1 :=
  let c0_i32_374 : BitVec 32 := 0#32
  let c1_i32_376 : BitVec 32 := 1#32
  let arg17 : BitVec 32 := Scf.iv c0_i32_374 c1_i32_376 k0_t1
  let c7_i32 : BitVec 32 := 7#32
  let v669 : BitVec 1 := Scalar.cmpi .slt arg17 c7_i32
  let v670 : BitVec 32 := Scalar.extui v669
  let c0_i32_451 : BitVec 32 := 0#32
  let v671 : BitVec 1 := Scalar.cmpi .ne v670 c0_i32_451
  v671

def k0_off13 (k0_t1 : Fin k0_t1_loop.trips) : Fin 1 → Nat :=
  let c0_i32_374 : BitVec 32 := 0#32
  let c1_i32_376 : BitVec 32 := 1#32
  let arg17 : BitVec 32 := Scf.iv c0_i32_374 c1_i32_376 k0_t1
  ![arg17.toNat]
def k0_off14 (k0_t1 : Fin k0_t1_loop.trips) : Fin 3 → Nat :=
  let c0_i32_374 : BitVec 32 := 0#32
  let c1_i32_376 : BitVec 32 := 1#32
  let arg17 : BitVec 32 := Scf.iv c0_i32_374 c1_i32_376 k0_t1
  let c0_i32_458 : BitVec 32 := 0#32
  let c0_i32_459 : BitVec 32 := 0#32
  ![arg17.toNat, 0, 0]
def k0_dev10 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_456 : BitVec 32 := 1#32
  let v679 : BitVec 32 := Scalar.muli v24 c1_i32_456
  let v680 : BitVec 32 := Scalar.addi c0_i32_457 v679
  v680.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S1x4096x8192 : Shape := ⟨3, ![1, 4096, 8192]⟩
abbrev S1x4096x64x128 : Shape := ⟨4, ![1, 4096, 64, 128]⟩
abbrev S1x64x4096x4096 : Shape := ⟨4, ![1, 64, 4096, 4096]⟩
abbrev S_ : Shape := ⟨0, ![]⟩
abbrev S1x64x4096 : Shape := ⟨3, ![1, 64, 4096]⟩
abbrev S1x64x4096x1 : Shape := ⟨4, ![1, 64, 4096, 1]⟩
abbrev S1x64x128x4096 : Shape := ⟨4, ![1, 64, 128, 4096]⟩
abbrev S1x4096x64x1 : Shape := ⟨4, ![1, 4096, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1024x8192, .bf16⟩
  | .hbm, ⟨2, _⟩ => ⟨S8192x1024, .bf16⟩
  | .hbm, ⟨3, _⟩ => ⟨S1024x8192, .bf16⟩
  | .hbm, ⟨4, _⟩ => ⟨S1024x8192, .bf16⟩
  | .hbm, ⟨5, _⟩ => ⟨S1x4096x1024, .f32⟩
  | .hbm, ⟨6, _⟩ => ⟨S1024x8192, .f32⟩
  | .hbm, ⟨7, _⟩ => ⟨S8192x1024, .f32⟩
  | .hbm, ⟨8, _⟩ => ⟨S1024x8192, .f32⟩
  | .hbm, ⟨9, _⟩ => ⟨S1024x8192, .f32⟩
  | .hbm, ⟨10, _⟩ => ⟨S1x4096x8192, .f32⟩
  | .hbm, ⟨11, _⟩ => ⟨S1x4096x64x128, .f32⟩
  | .hbm, ⟨12, _⟩ => ⟨S1x4096x8192, .f32⟩
  | .hbm, ⟨13, _⟩ => ⟨S1x4096x64x128, .f32⟩
  | .hbm, ⟨14, _⟩ => ⟨S1x4096x8192, .f32⟩
  | .hbm, ⟨15, _⟩ => ⟨S1x4096x64x128, .f32⟩
  | .hbm, ⟨16, _⟩ => ⟨S1x64x4096x4096, .f32⟩
  | .hbm, ⟨17, _⟩ => ⟨S_, .f32⟩
  | .hbm, ⟨18, _⟩ => ⟨S1x64x4096x4096, .f32⟩
  | .hbm, ⟨19, _⟩ => ⟨S1x64x4096x4096, .f32⟩
  | .hbm, ⟨20, _⟩ => ⟨S_, .f32⟩
  | .hbm, ⟨21, _⟩ => ⟨S1x64x4096, .f32⟩
  | .hbm, ⟨22, _⟩ => ⟨S1x64x4096x1, .f32⟩
  | .hbm, ⟨23, _⟩ => ⟨S1x64x4096x4096, .f32⟩
  | .hbm, ⟨24, _⟩ => ⟨S1x64x4096x4096, .f32⟩
  | .hbm, ⟨25, _⟩ => ⟨S1x64x4096x4096, .f32⟩
  | .hbm, ⟨26, _⟩ => ⟨S_, .f32⟩
  | .hbm, ⟨27, _⟩ => ⟨S1x64x4096, .f32⟩
  | .hbm, ⟨28, _⟩ => ⟨S1x64x4096x1, .f32⟩
  | .hbm, ⟨29, _⟩ => ⟨S1x64x128x4096, .f32⟩
  | .hbm, ⟨30, _⟩ => ⟨S1x4096x64x128, .f32⟩
  | .hbm, ⟨31, _⟩ => ⟨S1x4096x64x1, .f32⟩
  | .hbm, ⟨32, _⟩ => ⟨S1x4096x64x128, .f32⟩
  | .hbm, ⟨33, _⟩ => ⟨S1x4096x64x128, .f32⟩
  | .hbm, ⟨34, _⟩ => ⟨S1x4096x8192, .f32⟩
  | .hbm, ⟨35, _⟩ => ⟨S1x4096x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.RingIdeal.Cells.lean ====
/- The ring's places and its semaphores: who is whose neighbour, which slot each printed offset names, the
   twenty-eight transfer semaphores of a device as one family, and the sets of elements a slot is. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.WriteMode
public import Idealize.ShloMosaic.Lib.Tactic
public import Mathlib.Tactic.DeriveFintype

@[expose] public section

noncomputable section

namespace Cert.RingIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Places on the ring -/

/-- The right neighbour, -/
def nxt (c : Dev nD) : Dev nD := ⟨(c.val + 1) % 8, Nat.mod_lt _ (by decide)⟩
/-- and the left one. -/
def prv (c : Dev nD) : Dev nD := ⟨(c.val + 7) % 8, Nat.mod_lt _ (by decide)⟩

theorem nxt_prv (c : Dev nD) : nxt (prv c) = c := by revert c; decide
theorem prv_nxt (c : Dev nD) : prv (nxt c) = c := by revert c; decide

/-- Going right around the ring. -/
def ring : Dev nD ≃ Dev nD := ⟨nxt, prv, prv_nxt, nxt_prv⟩

/-- The slot `k` places to the right of `c`. -/
def sl (c : Dev nD) (k : ℕ) : ℕ := (c.val + k) % 8

theorem sl_lt (c : Dev nD) (k : ℕ) : sl c k < 8 := Nat.mod_lt _ (by decide)
theorem sl_zero (c : Dev nD) : sl c 0 = c.val := by revert c; decide
theorem sl_eight (c : Dev nD) : sl c 8 = c.val := by revert c; decide
theorem sl_nxt (c : Dev nD) (k : ℕ) : sl (nxt c) k = sl c (k + 1) := by unfold sl nxt; simp only; omega
theorem sl_prv (c : Dev nD) (k : ℕ) : sl (prv c) (k + 1) = sl c k := by unfold sl prv; simp only; omega

/-! ## The printed places -/

theorem dev1_eq (c : Dev nD) : (⟨k0_dev1 c, k0_dev1_lt c⟩ : Dev nD) = prv c := Fin.ext (by revert c; decide +kernel)
theorem dev2_eq (c : Dev nD) : (⟨k0_dev2 c, k0_dev2_lt c⟩ : Dev nD) = nxt c := Fin.ext (by revert c; decide +kernel)
theorem dev3_eq (c : Dev nD) : (⟨k0_dev3 c, k0_dev3_lt c⟩ : Dev nD) = nxt c := Fin.ext (by revert c; decide +kernel)
theorem dev4_eq (c : Dev nD) : (⟨k0_dev4 c, k0_dev4_lt c⟩ : Dev nD) = prv c := Fin.ext (by revert c; decide +kernel)
theorem dev5_eq (c : Dev nD) : (⟨k0_dev5 c, k0_dev5_lt c⟩ : Dev nD) = nxt c := Fin.ext (by revert c; decide +kernel)
theorem dev6_eq (c : Dev nD) : (⟨k0_dev6 c, k0_dev6_lt c⟩ : Dev nD) = prv c := Fin.ext (by revert c; decide +kernel)
theorem dev7_eq (c : Dev nD) : (⟨k0_dev7 c, k0_dev7_lt c⟩ : Dev nD) = nxt c := Fin.ext (by revert c; decide +kernel)
theorem dev8_eq (c : Dev nD) : (⟨k0_dev8 c, k0_dev8_lt c⟩ : Dev nD) = prv c := Fin.ext (by revert c; decide +kernel)
theorem dev9_eq (c : Dev nD) : (⟨k0_dev9 c, k0_dev9_lt c⟩ : Dev nD) = nxt c := Fin.ext (by revert c; decide +kernel)

theorem off1_eq (c : Dev nD) : k0_off1 c = ![sl c 0, 0, 0] := by revert c; decide +kernel
theorem off4_eq (c : Dev nD) : k0_off4 c = ![512 * sl c 0, 0] := by revert c; decide +kernel
theorem off2_0 (c : Dev nD) : k0_off2 c 0#32 = ![sl c 8, 0, 0] := by revert c; decide +kernel
theorem off2_1 (c : Dev nD) : k0_off2 c 1#32 = ![sl c 7, 0, 0] := by revert c; decide +kernel
theorem off2_2 (c : Dev nD) : k0_off2 c 2#32 = ![sl c 6, 0, 0] := by revert c; decide +kernel
theorem off2_3 (c : Dev nD) : k0_off2 c 3#32 = ![sl c 5, 0, 0] := by revert c; decide +kernel
theorem off3_0 (c : Dev nD) : k0_off3 c 0#32 = ![sl c 0, 0, 0] := by revert c; decide +kernel
theorem off3_1 (c : Dev nD) : k0_off3 c 1#32 = ![sl c 1, 0, 0] := by revert c; decide +kernel
theorem off3_2 (c : Dev nD) : k0_off3 c 2#32 = ![sl c 2, 0, 0] := by revert c; decide +kernel
theorem off5_1 (c : Dev nD) : k0_off5 c 1#32 = ![sl c 7, 0, 0] := by revert c; decide +kernel
theorem off5_2 (c : Dev nD) : k0_off5 c 2#32 = ![sl c 6, 0, 0] := by revert c; decide +kernel
theorem off5_3 (c : Dev nD) : k0_off5 c 3#32 = ![sl c 5, 0, 0] := by revert c; decide +kernel
theorem off6_1 (c : Dev nD) : k0_off6 c 1#32 = ![512 * sl c 7, 0] := by revert c; decide +kernel
theorem off6_2 (c : Dev nD) : k0_off6 c 2#32 = ![512 * sl c 6, 0] := by revert c; decide +kernel
theorem off6_3 (c : Dev nD) : k0_off6 c 3#32 = ![512 * sl c 5, 0] := by revert c; decide +kernel
theorem off7_1 (c : Dev nD) : k0_off7 c 1#32 = ![sl c 1, 0, 0] := by revert c; decide +kernel
theorem off7_2 (c : Dev nD) : k0_off7 c 2#32 = ![sl c 2, 0, 0] := by revert c; decide +kernel
theorem off7_3 (c : Dev nD) : k0_off7 c 3#32 = ![sl c 3, 0, 0] := by revert c; decide +kernel
theorem off7_4 (c : Dev nD) : k0_off7 c 4#32 = ![sl c 4, 0, 0] := by revert c; decide +kernel
theorem off8_1 (c : Dev nD) : k0_off8 c 1#32 = ![512 * sl c 1, 0] := by revert c; decide +kernel
theorem off8_2 (c : Dev nD) : k0_off8 c 2#32 = ![512 * sl c 2, 0] := by revert c; decide +kernel
theorem off8_3 (c : Dev nD) : k0_off8 c 3#32 = ![512 * sl c 3, 0] := by revert c; decide +kernel
theorem off8_4 (c : Dev nD) : k0_off8 c 4#32 = ![512 * sl c 4, 0] := by revert c; decide +kernel

theorem trips_eq : k0_t1_loop.trips = 8 := by decide +kernel

/-! ## The transfer semaphores -/

/-- A device's own transfer semaphores: of the gather going right, of the gather going left, and of the reduction, each
    hop's two — where the sender learns its source is free (`S`), where the receiver learns its block has come (`R`). -/
inductive CK | arS (h : Fin 4) | arR (h : Fin 4) | alS (h : Fin 3) | alR (h : Fin 3) | rsS (t : Fin 7) | rsR (t : Fin 7)
  deriving DecidableEq, Fintype

/-- The semaphore of each. -/
def semOf : CK → DmaSem sig
  | .arS h => ⟨6 + h.val, by have := h.2; show _ < 34; omega⟩
  | .arR h => ⟨10 + h.val, by have := h.2; show _ < 34; omega⟩
  | .alS h => ⟨14 + h.val, by have := h.2; show _ < 34; omega⟩
  | .alR h => ⟨17 + h.val, by have := h.2; show _ < 34; omega⟩
  | .rsS t => ⟨20 + t.val, by have := t.2; show _ < 34; omega⟩
  | .rsR t => ⟨27 + t.val, by have := t.2; show _ < 34; omega⟩

theorem semOf_inj : Function.Injective semOf := by
  intro a b
  revert a b
  decide +kernel

/-- The runtime's barrier semaphore. -/
abbrev barS : Sem sig := (SemArray.scalar (sig.barrier 0 rfl) : Sems sig S_).sem

/-- The location of a device's cell: `none` its barrier, `some k` a transfer semaphore. -/
abbrev cloc : Option CK → SemLoc sig
  | none => .reg barS
  | some k => .dma (semOf k)

theorem cloc_inj : Function.Injective cloc := by
  rintro (_ | a) (_ | b) h
  · rfl
  · cases h
  · cases h
  · exact congrArg some (semOf_inj (by injection h))

/-- The cell `k` of device `c`. -/
abbrev cellAt (c : Dev nD) (k : Option CK) : GSem nD τ sig := ((c : Thread nD τ), cloc k)

theorem cellAt_inj {c c' : Dev nD} {k k' : Option CK} (h : cellAt c k = cellAt c' k') : c = c' ∧ k = k' :=
  ⟨congrArg (fun g : GSem nD τ sig => g.1.1) h, cloc_inj (congrArg Prod.snd h)⟩

/-- Which of the family a location is, if any. -/
def kindOf (s : SemLoc sig) : Option (Option CK) := by
  classical exact if h : ∃ k, cloc k = s then some h.choose else none

theorem kindOf_cloc (k : Option CK) : kindOf (cloc k) = some k := by
  unfold kindOf
  have h : ∃ k', cloc k' = cloc k := ⟨k, rfl⟩
  rw [dif_pos h]; exact congrArg some (cloc_inj h.choose_spec)

/-- Device `c`'s peer over the transfer that completes on `k`: where the cell it credits lives. -/
def peer (c : Dev nD) : CK → Dev nD
  | .arR _ => nxt c
  | .alR _ => prv c
  | .rsR _ => nxt c
  | _ => c

/-- The same, seen as a permutation of the ring. -/
def peerE (k : CK) : Dev nD ≃ Dev nD := match k with
  | .arR _ => ring
  | .alR _ => ring.symm
  | .rsR _ => ring
  | _ => Equiv.refl _

theorem peerE_apply (k : CK) (c : Dev nD) : peerE k c = peer c k := by cases k <;> rfl

/-! ## Slots as sets of elements -/

/-- Slot `s` of the gathered activations. -/
def xI (s : ℕ) : Finset S8x512x1024.Idx := Finset.univ.filter fun i => (i 0).val = s
/-- Slot `s` of the received partial sums. -/
def rI (s : ℕ) : Finset S7x512x1024.Idx := Finset.univ.filter fun i => (i 0).val = s
/-- Row slab `s` of the keys (and of the values). -/
def kI (s : ℕ) : Finset S4096x1024.Idx := Finset.univ.filter fun i => (i 0).val / 512 = s

theorem mem_xI {s : ℕ} {i : S8x512x1024.Idx} : i ∈ xI s ↔ (i 0).val = s := by simp [xI]
theorem mem_rI {s : ℕ} {i : S7x512x1024.Idx} : i ∈ rI s ↔ (i 0).val = s := by simp [rI]
theorem mem_kI {s : ℕ} {i : S4096x1024.Idx} : i ∈ kI s ↔ (i 0).val / 512 = s := by simp [kI]

/-! ## The buffers -/

abbrev xM : Memref sig .tc .vmem S1x512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev oM : Memref sig .tc .vmem S1x512x1024 .f32 := Memref.whole cc0_stg5_0
abbrev gM : Memref sig .tc .vmem S8x512x1024 .bf16 := Memref.whole cc0_scratch0
abbrev kM : Memref sig .tc .vmem S4096x1024 .bf16 := Memref.whole cc0_scratch1
abbrev vM : Memref sig .tc .vmem S4096x1024 .bf16 := Memref.whole cc0_scratch2
abbrev rM : Memref sig .tc .vmem S7x512x1024 .bf16 := Memref.whole cc0_scratch3
abbrev sM : Memref sig .tc .vmem S512x1024 .bf16 := Memref.whole cc0_scratch4

/-- What one transfer credits: every block moved is one bf16[512, 1024]. -/
abbrev N : ℕ := sM.view.dmaCredit
theorem N_pos : 0 < N := View.dmaCredit_pos _ (by decide)

/-- A block of the gathered activations, seen as the transfers see it. -/
abbrev gSlot (off : Fin 3 → ℕ) (h : ∀ a, off a + S1x512x1024.size a ≤ S8x512x1024.size a) : Memref sig .tc .vmem S512x1024 .bf16 :=
  (gM.slice (Rect.unit (s := S8x512x1024) off S1x512x1024.size h) (fun _ => rfl)).squeeze S512x1024 squeezes_S1x512x1024_S512x1024

/-- A block of the received partial sums, likewise. -/
abbrev rSlot (off : Fin 3 → ℕ) (h : ∀ a, off a + S1x512x1024.size a ≤ S7x512x1024.size a) : Memref sig .tc .vmem S512x1024 .bf16 :=
  (rM.slice (Rect.unit (s := S7x512x1024) off S1x512x1024.size h) (fun _ => rfl)).squeeze S512x1024 squeezes_S1x512x1024_S512x1024

theorem gSlot_credit (off h) : (gSlot off h).view.dmaCredit = N := rfl
theorem rSlot_credit (off h) : (rSlot off h).view.dmaCredit = N := rfl

end Cert.RingIdeal

end
-- ==== Proof.RingIdeal.Geom.lean ====
/- What the kernel's buffers come to hold, as functions of the memory at launch, and what each load, store and
   transfer of one slot reads and writes of them. -/
module

public import proofs.«01_k».proof.Proof.RingIdeal.Cells
public import Idealize.ShloMosaic.Lib.ValueLayout
public import Idealize.ShloMosaic.Lib.Writes

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One slot of a three-axis buffer -/

section Slots

variable (f : S8x512x1024.Idx → Elt F .bf16) (g : S7x512x1024.Idx → Elt F .bf16)

theorem x_rect_set {s : ℕ} {off : Fin 3 → ℕ} (ho : off = ![s, 0, 0]) (h : ∀ a, off a + S1x512x1024.size a ≤ S8x512x1024.size a) :
    (Rect.unit (s := S8x512x1024) off S1x512x1024.size h).set = xI s := by
  subst ho
  ext i
  rw [Rect.mem_set_unit, mem_xI]
  constructor
  · intro hh; have := hh 0; simp at this; omega
  · intro hh a
    have h0 := (i 0).isLt; have h1 := (i 1).isLt; have h2 := (i 2).isLt
    fin_cases a <;> simp [S1x512x1024, S8x512x1024] at h1 h2 hh ⊢ <;> omega

theorem r_rect_set {s : ℕ} {off : Fin 3 → ℕ} (ho : off = ![s, 0, 0]) (h : ∀ a, off a + S1x512x1024.size a ≤ S7x512x1024.size a) :
    (Rect.unit (s := S7x512x1024) off S1x512x1024.size h).set = rI s := by
  subst ho
  ext i
  rw [Rect.mem_set_unit, mem_rI]
  constructor
  · intro hh; have := hh 0; simp at this; omega
  · intro hh a
    have h0 := (i 0).isLt; have h1 := (i 1).isLt; have h2 := (i 2).isLt
    fin_cases a <;> simp [S1x512x1024, S7x512x1024] at h1 h2 hh ⊢ <;> omega

theorem k_rect_set {s : ℕ} {off : Fin 2 → ℕ} (ho : off = ![512 * s, 0]) (h : ∀ a, off a + S512x1024.size a ≤ S4096x1024.size a) :
    (Rect.unit (s := S4096x1024) off S512x1024.size h).set = kI s := by
  subst ho
  ext i
  rw [Rect.mem_set_unit, mem_kI]
  constructor
  · intro hh; have := hh 0; simp [S512x1024] at this; omega
  · intro hh a
    have h0 := (i 0).isLt; have h1 := (i 1).isLt
    fin_cases a <;> simp [S512x1024, S4096x1024] at h1 hh ⊢ <;> omega

theorem gSlot_set {s : ℕ} {off : Fin 3 → ℕ} (ho : off = ![s, 0, 0]) (h : ∀ a, off a + S1x512x1024.size a ≤ S8x512x1024.size a) :
    (gSlot off h).view.set = xI s := by
  show (((View.whole cc0_scratch0 : View sig _ _ _ _).slice _).reshape _ _).set = _
  rw [View.set_reshape, View.set_slice_whole]; exact x_rect_set ho h

theorem rSlot_set {s : ℕ} {off : Fin 3 → ℕ} (ho : off = ![s, 0, 0]) (h : ∀ a, off a + S1x512x1024.size a ≤ S7x512x1024.size a) :
    (rSlot off h).view.set = rI s := by
  show (((View.whole cc0_scratch3 : View sig _ _ _ _).slice _).reshape _ _).set = _
  rw [View.set_reshape, View.set_slice_whole]; exact r_rect_set ho h

theorem gSlot_emb {s : ℕ} (hs : s < 8) {off : Fin 3 → ℕ} (ho : off = ![s, 0, 0]) (h : ∀ a, off a + S1x512x1024.size a ≤ S8x512x1024.size a)
    (j : S512x1024.Idx) : (gSlot off h).view.emb j = ix3 (⟨s, hs⟩ : Fin 8) (j 0) (j 1) := by
  subst ho
  show (Rect.unit (s := S8x512x1024) ![s, 0, 0] S1x512x1024.size h).emb (Shape.reshapeEquiv _ j) = _
  obtain ⟨a, b, rfl⟩ : ∃ a b, j = ix2 a b := ⟨_, _, eq_ix2 j⟩
  erw [reshapeEquiv_ix2_1ab]
  funext x
  apply Fin.ext
  rw [Rect.emb_apply]
  fin_cases x <;> simp [ix3, ix2]

theorem rSlot_emb {s : ℕ} (hs : s < 7) {off : Fin 3 → ℕ} (ho : off = ![s, 0, 0]) (h : ∀ a, off a + S1x512x1024.size a ≤ S7x512x1024.size a)
    (j : S512x1024.Idx) : (rSlot off h).view.emb j = ix3 (⟨s, hs⟩ : Fin 7) (j 0) (j 1) := by
  subst ho
  show (Rect.unit (s := S7x512x1024) ![s, 0, 0] S1x512x1024.size h).emb (Shape.reshapeEquiv _ j) = _
  obtain ⟨a, b, rfl⟩ : ∃ a b, j = ix2 a b := ⟨_, _, eq_ix2 j⟩
  erw [reshapeEquiv_ix2_1ab]
  funext x
  apply Fin.ext
  rw [Rect.emb_apply]
  fin_cases x <;> simp [ix3, ix2]

theorem x_readAt {s : ℕ} (hs : s < 8) {off : Fin 3 → ℕ} (ho : off = ![s, 0, 0]) (h : ∀ a, off a + S1x512x1024.size a ≤ S8x512x1024.size a) :
    gM.view.readAt (Elt F) (Rect.unit (s := S8x512x1024) off S1x512x1024.size h).toLoadRect f
      = fun j : S1x512x1024.Idx => f (ix3 (⟨s, hs⟩ : Fin 8) (j 1) (j 2)) := by
  subst ho
  funext j
  show f _ = f _
  congr 1
  funext x
  apply Fin.ext
  have h0 : (j 0).val < 1 := (j 0).isLt
  show ((Rect.unit (s := S8x512x1024) ![s, 0, 0] S1x512x1024.size h).emb j x).val = _
  rw [Rect.emb_apply]
  fin_cases x <;> simp [ix3]
  · exact Nat.lt_one_iff.mp h0
  · rfl

theorem r_readAt {s : ℕ} (hs : s < 7) {off : Fin 3 → ℕ} (ho : off = ![s, 0, 0]) (h : ∀ a, off a + S1x512x1024.size a ≤ S7x512x1024.size a) :
    rM.view.readAt (Elt F) (Rect.unit (s := S7x512x1024) off S1x512x1024.size h).toLoadRect g
      = fun j : S1x512x1024.Idx => g (ix3 (⟨s, hs⟩ : Fin 7) (j 1) (j 2)) := by
  subst ho
  funext j
  show g _ = g _
  congr 1
  funext x
  apply Fin.ext
  have h0 : (j 0).val < 1 := (j 0).isLt
  show ((Rect.unit (s := S7x512x1024) ![s, 0, 0] S1x512x1024.size h).emb j x).val = _
  rw [Rect.emb_apply]
  fin_cases x <;> simp [ix3]
  · exact Nat.lt_one_iff.mp h0
  · rfl

/-- What a store of one slot of the gathered activations leaves there. -/
theorem x_write {s : ℕ} {off : Fin 3 → ℕ} (ho : off = ![s, 0, 0]) (h : ∀ a, off a + S1x512x1024.size a ≤ S8x512x1024.size a)
    (w : S1x512x1024.Idx → Elt F .bf16) (i : S8x512x1024.Idx) (hi : i ∈ xI s) :
    (gM.access (Rect.unit (s := S8x512x1024) off S1x512x1024.size h)).write (Elt F) f w Finset.univ i = w (ix3 (0 : Fin 1) (i 1) (i 2)) := by
  subst ho
  rw [mem_xI] at hi
  have hi' : i = (gM.access (Rect.unit (s := S8x512x1024) ![s, 0, 0] S1x512x1024.size h)).emb (ix3 (0 : Fin 1) (i 1) (i 2)) := by
    funext x
    apply Fin.ext
    show _ = ((Rect.unit (s := S8x512x1024) ![s, 0, 0] S1x512x1024.size h).emb (ix3 (0 : Fin 1) (i 1) (i 2)) x).val
    rw [Rect.emb_apply]
    fin_cases x <;> simp [ix3, hi]
  conv_lhs => rw [hi']
  rw [View.write_emb_of_mem _ _ (Finset.mem_univ _)]
  rfl

theorem k_write {s : ℕ} {off : Fin 2 → ℕ} (ho : off = ![512 * s, 0]) (h : ∀ a, off a + S512x1024.size a ≤ S4096x1024.size a)
    (f : S4096x1024.Idx → Elt F .bf16) (w : S512x1024.Idx → Elt F .bf16) (i : S4096x1024.Idx) :
    (kM.access (Rect.unit (s := S4096x1024) off S512x1024.size h)).write (Elt F) f w Finset.univ i
      = if i ∈ kI s then w (ix2 (⟨(i 0).val % 512, Nat.mod_lt _ (by decide)⟩ : Fin 512) (i 1)) else f i := by
  by_cases hi : i ∈ kI s
  · rw [if_pos hi]
    subst ho
    rw [mem_kI] at hi
    have hi' : i = (kM.access (Rect.unit (s := S4096x1024) ![512 * s, 0] S512x1024.size h)).emb
        (ix2 (⟨(i 0).val % 512, Nat.mod_lt _ (by decide)⟩ : Fin 512) (i 1)) := by
      funext x
      apply Fin.ext
      show _ = ((Rect.unit (s := S4096x1024) ![512 * s, 0] S512x1024.size h).emb
        (ix2 (⟨(i 0).val % 512, Nat.mod_lt _ (by decide)⟩ : Fin 512) (i 1)) x).val
      rw [Rect.emb_apply]
      fin_cases x
      · simp [ix2]; omega
      · simp [ix2]
    conv_lhs => rw [hi']
    rw [View.write_emb_of_mem _ _ (Finset.mem_univ _)]
    rfl
  · rw [if_neg hi]
    refine View.write_of_not_mem _ _ _ ?_
    rw [show (kM.access (Rect.unit (s := S4096x1024) off S512x1024.size h)).setOn Finset.univ = kI s from
      (View.setOn_univ _).trans ((View.set_slice_whole _ _).trans (k_rect_set ho h))]
    exact hi

theorem v_write {s : ℕ} {off : Fin 2 → ℕ} (ho : off = ![512 * s, 0]) (h : ∀ a, off a + S512x1024.size a ≤ S4096x1024.size a)
    (f : S4096x1024.Idx → Elt F .bf16) (w : S512x1024.Idx → Elt F .bf16) (i : S4096x1024.Idx) :
    (vM.access (Rect.unit (s := S4096x1024) off S512x1024.size h)).write (Elt F) f w Finset.univ i
      = if i ∈ kI s then w (ix2 (⟨(i 0).val % 512, Nat.mod_lt _ (by decide)⟩ : Fin 512) (i 1)) else f i := by
  by_cases hi : i ∈ kI s
  · rw [if_pos hi]
    subst ho
    rw [mem_kI] at hi
    have hi' : i = (vM.access (Rect.unit (s := S4096x1024) ![512 * s, 0] S512x1024.size h)).emb
        (ix2 (⟨(i 0).val % 512, Nat.mod_lt _ (by decide)⟩ : Fin 512) (i 1)) := by
      funext x
      apply Fin.ext
      show _ = ((Rect.unit (s := S4096x1024) ![512 * s, 0] S512x1024.size h).emb
        (ix2 (⟨(i 0).val % 512, Nat.mod_lt _ (by decide)⟩ : Fin 512) (i 1)) x).val
      rw [Rect.emb_apply]
      fin_cases x
      · simp [ix2]; omega
      · simp [ix2]
    conv_lhs => rw [hi']
    rw [View.write_emb_of_mem _ _ (Finset.mem_univ _)]
    rfl
  · rw [if_neg hi]
    refine View.write_of_not_mem _ _ _ ?_
    rw [show (vM.access (Rect.unit (s := S4096x1024) off S512x1024.size h)).setOn Finset.univ = kI s from
      (View.setOn_univ _).trans ((View.set_slice_whole _ _).trans (k_rect_set ho h))]
    exact hi

end Slots

/-! ## What the buffers come to hold -/

variable (m : (ℓ : Loc nD τ sig) → Buf (Elt F) ℓ)

/-- Device `c`'s block of the activations. -/
def xst (c : Dev nD) : Vec F S1x512x1024 .bf16 := (win0_0.blk (0 : Fin 1)).view.read (Elt F) (m ((c : Thread nD τ).loc main_arg0))
/-- Device `c`'s block of each weight. -/
def wqst (c : Dev nD) : Vec F S1024x1024 .bf16 := (win0_1.blk (0 : Fin 1)).view.read (Elt F) (m ((c : Thread nD τ).loc main_arg1))
def wost (c : Dev nD) : Vec F S1024x1024 .bf16 := (win0_2.blk (0 : Fin 1)).view.read (Elt F) (m ((c : Thread nD τ).loc main_arg2))
def wkst (c : Dev nD) : Vec F S1024x1024 .bf16 := (win0_3.blk (0 : Fin 1)).view.read (Elt F) (m ((c : Thread nD τ).loc main_arg3))
def wvst (c : Dev nD) : Vec F S1024x1024 .bf16 := (win0_4.blk (0 : Fin 1)).view.read (Elt F) (m ((c : Thread nD τ).loc main_arg4))

/-- The gathered activations: slot `s` is device `s`'s block, on every device. -/
def xgF : S8x512x1024.Idx → Elt F .bf16 :=
  fun i => k0_pay16 (xst m (⟨(i 0).val, (i 0).isLt⟩ : Dev nD)) (ix3 (0 : Fin 1) (i 1) (i 2))

/-- Slot `s` of the gathered activations, as a load reads it. -/
def xSl (s : ℕ) (hs : s < 8) : Vec F S1x512x1024 .bf16 := fun j => xgF m (ix3 (⟨s, hs⟩ : Fin 8) (j 1) (j 2))

theorem row_div_lt (i : S4096x1024.Idx) : (i 0).val / 512 < 8 := by
  have h : (i 0).val < 4096 := (i 0).isLt
  omega

/-- Device `c`'s keys: slab `s` is the product of slot `s` with its block of the key weight. -/
def kF (c : Dev nD) : S4096x1024.Idx → Elt F .bf16 :=
  fun i => k0_pay18 (xSl m ((i 0).val / 512) (row_div_lt i)) (wkst m c) (ix2 (⟨(i 0).val % 512, Nat.mod_lt _ (by decide)⟩ : Fin 512) (i 1))
/-- Device `c`'s values, likewise. -/
def vF (c : Dev nD) : S4096x1024.Idx → Elt F .bf16 :=
  fun i => k0_pay18 (xSl m ((i 0).val / 512) (row_div_lt i)) (wvst m c) (ix2 (⟨(i 0).val % 512, Nat.mod_lt _ (by decide)⟩ : Fin 512) (i 1))

/-- A window of 128 columns of the keys or the values. -/
def col (f : S4096x1024.Idx → Elt F .bf16) (off : ℕ) (h : ∀ a, (![0, off] : Fin 2 → ℕ) a + S4096x128.size a ≤ S4096x1024.size a) :
    Vec F S4096x128 .bf16 :=
  kM.view.readAt (Elt F) (Rect.unit (s := S4096x1024) ![0, off] S4096x128.size h).toLoadRect f

/-- The zero accumulator of the scores. -/
def cst0 : FVec F S512x4096 .f32 := constant S512x4096 .f32 0x00000000#32

/-- What a trip of the loop computes last: a payload of the eight heads' outputs, the output weight and the partial
    result that came in. -/
abbrev TripPay (F : FTy → Type) [FloatOps F] (α : Type) : Type :=
  BitVec 32 → FVec F S512x128 .bf16 → FVec F S512x128 .bf16 → FVec F S512x128 .bf16 → FVec F S512x128 .bf16 → FVec F S512x128 .bf16
    → FVec F S512x128 .bf16 → FVec F S512x128 .bf16 → FVec F S512x128 .bf16 → Vec F S4096x128 .bf16 → FVec F S512x4096 .f32
    → Vec F S4096x128 .bf16 → Vec F S1024x1024 .bf16 → Vec F S1x512x1024 .bf16 → α

/-- A trip's payload of the queries' block `x`, the weights, the keys and the values. -/
def tripOf {α : Type} (pay : TripPay F α) (a : BitVec 32) (x : Vec F S1x512x1024 .bf16) (wq wo : Vec F S1024x1024 .bf16)
    (K V : S4096x1024.Idx → Elt F .bf16) (prev : Vec F S1x512x1024 .bf16) : α :=
  pay a
    (k0_pay6 x wq (col K 0 inb_S4096x1024_S4096x128_0_0) (col V 0 inb_S4096x1024_S4096x128_0_0))
    (k0_pay8 (k0_pay7 x wq) (col K 128 inb_S4096x1024_S4096x128_0_128) cst0 (col V 128 inb_S4096x1024_S4096x128_0_128))
    (k0_pay9 (k0_pay5 x wq) (col K 256 inb_S4096x1024_S4096x128_0_256) (col V 256 inb_S4096x1024_S4096x128_0_256))
    (k0_pay10 (k0_pay5 x wq) (col K 384 inb_S4096x1024_S4096x128_0_384) (col V 384 inb_S4096x1024_S4096x128_0_384))
    (k0_pay12 (k0_pay11 (k0_pay5 x wq)) (col K 512 inb_S4096x1024_S4096x128_0_512) cst0 (col V 512 inb_S4096x1024_S4096x128_0_512))
    (k0_pay13 (k0_pay5 x wq) (col K 640 inb_S4096x1024_S4096x128_0_640) (col V 640 inb_S4096x1024_S4096x128_0_640))
    (k0_pay14 (k0_pay5 x wq) (col K 768 inb_S4096x1024_S4096x128_0_768) (col V 768 inb_S4096x1024_S4096x128_0_768))
    (k0_pay15 (k0_pay5 x wq)) (col K 896 inb_S4096x1024_S4096x128_0_896) cst0 (col V 896 inb_S4096x1024_S4096x128_0_896) wo prev

/-- Trip `t`'s payload on device `c`: its queries are those of slot `c - 1 - t`. -/
def tripAt {α : Type} (pay : TripPay F α) (c : Dev nD) (t : ℕ) (prev : Vec F S1x512x1024 .bf16) : α :=
  tripOf pay (Scf.iv 0#32 1#32 t) (xSl m (sl c (7 - t + 8)) (sl_lt _ _)) (wqst m c) (wost m c) (kF m c) (vF m c) prev

/-- A two-axis block as a load of one slot reads it. -/
def up {e : EltTy} (v : Vec F S512x1024 e) : Vec F S1x512x1024 e := fun j => v (ix2 (j 1) (j 2))

/-- What device `c` sends at trip `t`. -/
def sndF : ℕ → Dev nD → Vec F S512x1024 .bf16
  | 0, c => tripAt m k0_pay3 c 0 (up (fun _ => k0_pay18 (xSl m 0 (by decide)) (wkst m c) (ix2 0 0)))
  | t + 1, c => tripAt m k0_pay3 c (t + 1) (up (sndF t (prv c)))

/-- What device `c` has received when the loop is over: at slot `t` what its left neighbour sent at trip `t`. -/
def rcvF (c : Dev nD) : S7x512x1024.Idx → Elt F .bf16 := fun i => sndF m (i 0).val (prv c) (ix2 (i 1) (i 2))

/-- Device `c`'s block of the result. -/
def outF (c : Dev nD) : S1x512x1024.Idx → Elt F .f32 := tripAt m k0_pay4 c 7 (up (sndF m 6 (prv c)))

theorem first_not (v w : FVec F S512x1024 .f32) : Scalar.select (Scalar.cmpi .sgt (Scf.iv 0#32 1#32 0) 0#32) v w = w := by
  rw [show Scalar.cmpi .sgt (Scf.iv 0#32 1#32 0) 0#32 = 0#1 from by decide]; rfl

theorem pay3_first (a b d e f g h i : FVec F S512x128 .bf16) (k : Vec F S4096x128 .bf16) (z : FVec F S512x4096 .f32) (l : Vec F S4096x128 .bf16)
    (w : Vec F S1024x1024 .bf16) (p q : Vec F S1x512x1024 .bf16) :
    k0_pay3 (Scf.iv 0#32 1#32 0) a b d e f g h i k z l w p = k0_pay3 (Scf.iv 0#32 1#32 0) a b d e f g h i k z l w q := by
  unfold k0_pay3 k0_pay2
  dsimp only
  rw [first_not, first_not]

/-- At the first trip the partial result that came in is not used. -/
theorem snd_zero (c : Dev nD) (prev : Vec F S1x512x1024 .bf16) : tripAt m k0_pay3 c 0 prev = sndF m 0 c := by
  show _ = tripAt m k0_pay3 c 0 _
  unfold tripAt tripOf
  exact pay3_first _ _ _ _ _ _ _ _ _ _ _ _ _ _

theorem snd_succ (c : Dev nD) (t : ℕ) : sndF m (t + 1) c = tripAt m k0_pay3 c (t + 1) (up (sndF m t (prv c))) := rfl

end Cert.RingIdeal

end
-- ==== Proof.RingIdeal.Sched.lean ====
/- The kernel's protocol across devices: for each semaphore who pays, how much, and what memory the payment hands over;
   what each device owes, in order; the levels that make every wait safe. -/
module

public import proofs.«01_k».proof.Proof.RingIdeal.Geom
public import proofs.«01_k».proof.Proof.Gen.KernelIdeal.Launch
public import Idealize.ShloMosaic.Lib.Pipeline.Launch
public import Idealize.ShloMosaic.Lib.Pipeline.Kit
public import Idealize.ShloMosaic.Lib.WriteMode
public import Idealize.ShloMosaic.Lib.Tactic

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state's algebra: the pipeline's rounds, the ring's rounds, write mode -/

abbrev UB : Type := URounds (GSem nD τ sig) Bool
abbrev UW (F : FTy → Type) [FloatOps F] : Type := WmRA nD τ sig (Elt F)
abbrev UU (F : FTy → Type) [FloatOps F] : Type := UR sig nD τ × (UB × UW F)

local notation "𝕄" => MT nD τ sig Unit (Elt F) ℕ (UU F) ℕ

abbrev EP : Emb (UR sig nD τ) (MT nD τ sig Unit (Elt F) ℕ (UU F) ℕ) := embL
def ER : Emb UB (MT nD τ sig Unit (Elt F) ℕ (UU F) ℕ) := (Emb.inl : Emb UB (UB × UW F)).trans embR
instance ER_landsIn : (ER (F := F) : Emb UB 𝕄).LandsIn (upEmb : UEmb _ 𝕄) := by unfold ER; infer_instance
/-- Write mode's place in the algebra. -/
def wmE : UEmb (UW F) (UU F) := (UEmb.inr : UEmb (UW F) (UB × UW F)).trans UEmb.inr

variable (m : (ℓ : Loc nD τ sig) → Buf (Elt F) ℓ)

/-! ## The memory each payment hands over -/

abbrev xL (c : Dev nD) : Loc nD τ sig := (c : Thread nD τ).loc cc0_scratch0
abbrev kL (c : Dev nD) : Loc nD τ sig := (c : Thread nD τ).loc cc0_scratch1
abbrev vL (c : Dev nD) : Loc nD τ sig := (c : Thread nD τ).loc cc0_scratch2
abbrev rL (c : Dev nD) : Loc nD τ sig := (c : Thread nD τ).loc cc0_scratch3
abbrev sL (c : Dev nD) : Loc nD τ sig := (c : Thread nD τ).loc cc0_scratch4

/-- The share of a gathered slot its copy to the right holds, its copy to the left, and the one kept to load from. -/
abbrev qA : PosShare TreeShare := fullShare.left
abbrev qB : PosShare TreeShare := fullShare.right.left
abbrev qC : PosShare TreeShare := fullShare.right.right

/-- Slot `s` of the gathered activations, filled, on device `c`. -/
def xPt (c : Dev nD) (s : ℕ) (q : PosShare TreeShare) : sProp 𝕄 := xL c ↦[xI s]{q} xgF m
/-- The same slot before it is filled. -/
def xAny (c : Dev nD) (s : ℕ) : sProp 𝕄 := iprop(∃ f, xL c ↦[xI s]{fullShare} f)
/-- Slot `t` of the received sums on device `c`, in write mode: it will hold what the left neighbour sends at trip `t`;
    `W` is written so far. -/
def rWm (c : Dev nD) (t : ℕ) (q : PosShare TreeShare) (W : Finset S7x512x1024.Idx) : sProp 𝕄 :=
  iprop(∃ f, willBeTo (Ix := Unit) (Name := ℕ) (Lvl := ℕ) (wmE (F := F)) (rL c) (rI t) q f (fun i => some (rcvF m c i)) W)
/-- The same slot, received. -/
def rPt (c : Dev nD) (t : ℕ) : sProp 𝕄 := rL c ↦[rI t]{fullShare} rcvF m c
/-- The send buffer. -/
def sAny (c : Dev nD) : sProp 𝕄 := iprop(∃ f, sL c ↦[(sM.view.set : Finset _)]{fullShare} f)

instance xPt_storable (c : Dev nD) (s : ℕ) (q) : BI.Storable (upEmb : UEmb _ 𝕄) (xPt m c s q) := by unfold xPt; infer_instance
instance xAny_storable (c : Dev nD) (s : ℕ) : BI.Storable (upEmb : UEmb _ 𝕄) (xAny (F := F) c s) := by unfold xAny; infer_instance
instance rWm_storable (c : Dev nD) (t : ℕ) (q) (W) : BI.Storable (upEmb : UEmb _ 𝕄) (rWm m c t q W) := by unfold rWm; infer_instance
instance rPt_storable (c : Dev nD) (t : ℕ) : BI.Storable (upEmb : UEmb _ 𝕄) (rPt m c t) := by unfold rPt; infer_instance
instance sAny_storable (c : Dev nD) : BI.Storable (upEmb : UEmb _ 𝕄) (sAny (F := F) c) := by unfold sAny; infer_instance

/-- The slots of `e`'s gathered activations that `d`'s copies to the left fill. -/
def barL (d e : Dev nD) : sProp 𝕄 := bigSep Finset.univ fun h : Fin 3 => xAny (F := F) e (sl d h.val)
/-- The slots of `e`'s gathered activations that `d`'s copies to the right fill, and `e`'s slots for `d`'s partial sums. -/
def barR (d e : Dev nD) : sProp 𝕄 :=
  iprop((bigSep Finset.univ fun h : Fin 4 => xAny (F := F) e (sl d (8 - h.val))) ∗ bigSep Finset.univ fun t : Fin 7 => rWm m e t.val qA ∅)

instance barL_storable (d e : Dev nD) : BI.Storable (upEmb : UEmb _ 𝕄) (barL (F := F) d e) := by unfold barL; infer_instance
instance barR_storable (d e : Dev nD) : BI.Storable (upEmb : UEmb _ 𝕄) (barR m d e) := by unfold barR; infer_instance

/-- What the payment of a duty of device `c`'s cell `k` hands `c`. -/
def payOf (c : Dev nD) : Option CK → Bool → sProp 𝕄
  | none, false => barL c (prv c)
  | none, true => barR m c (nxt c)
  | some (.arS h), _ => xPt m c (sl c (8 - h.val)) qA
  | some (.arR h), _ => xPt m c (sl c (7 - h.val)) fullShare
  | some (.alS h), _ => xPt m c (sl c h.val) qB
  | some (.alR h), _ => xPt m c (sl c (1 + h.val)) fullShare
  | some (.rsS _), _ => sAny c
  | some (.rsR t), _ => rWm m c t.val qA (rI t.val)

instance payOf_storable (c : Dev nD) (k : Option CK) (b : Bool) : BI.Storable (upEmb : UEmb _ 𝕄) (payOf m c k b) := by
  rcases k with _ | k
  · cases b <;> (unfold payOf; infer_instance)
  · cases k <;> (unfold payOf; infer_instance)

/-! ## The schedule -/

def payAt (c : Dev nD) : Option (Option CK) → Bool → sProp 𝕄
  | some k, b => payOf m c k b
  | none, _ => iprop(emp)

instance payAt_storable (c : Dev nD) (k : Option (Option CK)) (b : Bool) : BI.Storable (upEmb : UEmb _ 𝕄) (payAt m c k b) := by
  cases k <;> (unfold payAt; infer_instance)

def dutiesOf : Option (Option CK) → Finset Bool
  | some none => Finset.univ
  | some (some _) => {false}
  | none => ∅

def amountOfK : Option (Option CK) → ℕ
  | some none => 1
  | _ => N

/-- One round: a barrier cell has two duties of one unit — `false` from the left neighbour, `true` from the right —, a
    transfer cell one of a block's credit. -/
def Rd : Rounds.Schedule (GSem nD τ sig) Bool 𝕄 where
  duties g r := if r = 0 ∧ g.1.2 = .tc then dutiesOf (kindOf g.2) else ∅
  unitless _ := False
  amount g _ _ := amountOfK (kindOf g.2)
  payload g _ d := payAt m g.1.1 (kindOf g.2) d
  amount_pos g _ _ _ := by
    unfold amountOfK
    split
    · exact Nat.one_pos
    · exact N_pos

instance Rd_payload_storable (g : GSem nD τ sig) (r : ℕ) (d : Bool) : BI.Storable (upEmb : UEmb _ 𝕄) ((Rd (F := F) m).payload g r d) := by
  show BI.Storable upEmb (payAt m g.1.1 (kindOf g.2) d)
  infer_instance

section Tables
variable (c : Dev nD) (k : CK)

theorem duties_bar : (Rd (F := F) m).duties (cellAt c none) 0 = Finset.univ := by
  dsimp only [Rd]; rw [if_pos ⟨rfl, rfl⟩, kindOf_cloc]; rfl
theorem duties_x : (Rd (F := F) m).duties (cellAt c (some k)) 0 = {false} := by
  dsimp only [Rd]; rw [if_pos ⟨rfl, rfl⟩, kindOf_cloc]; rfl
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (cellAt c none) 0 d = 1 := by dsimp only [Rd]; rw [kindOf_cloc]; rfl
theorem amount_x (d : Bool) : (Rd (F := F) m).amount (cellAt c (some k)) 0 d = N := by dsimp only [Rd]; rw [kindOf_cloc]; rfl
theorem expect_bar : (Rd (F := F) m).expect (cellAt c none) 0 = 2 := by
  unfold Schedule.expect Schedule.amountOf
  rw [duties_bar, Finset.sum_congr rfl fun d _ => amount_bar m c d, Finset.sum_const, Finset.card_univ, Fintype.card_bool, smul_eq_mul]
theorem expect_x : (Rd (F := F) m).expect (cellAt c (some k)) 0 = N := by
  unfold Schedule.expect Schedule.amountOf; rw [duties_x, Finset.sum_singleton, amount_x]
theorem payload_eq (k : Option CK) (d : Bool) : (Rd (F := F) m).payload (cellAt c k) 0 d = payOf m c k d := by
  dsimp only [Rd]; rw [kindOf_cloc]; rfl
theorem rest_bar : bigSep ((Rd (F := F) m).duties (cellAt c none) 0 \ ∅) (fun d => (Rd (F := F) m).payload (cellAt c none) 0 d)
    = iprop(barL c (prv c) ∗ barR m c (nxt c)) := by
  rw [Finset.sdiff_empty, duties_bar, bigSep_univ_eq_bigSepL [false, true] (by decide) (by decide), bigSepL_cons_cons, bigSepL_singleton,
    payload_eq, payload_eq]
  rfl
theorem rest_x : bigSep ((Rd (F := F) m).duties (cellAt c (some k)) 0 \ ∅) (fun d => (Rd (F := F) m).payload (cellAt c (some k)) 0 d)
    = payOf m c (some k) false := by
  rw [Finset.sdiff_empty, duties_x, bigSep_singleton, payload_eq]

end Tables

/-! ## What each device owes; the levels -/

/-- The transfers of a device, last first. -/
def seqK : ℕ → CK
  | 0 => .rsR 6 | 1 => .rsR 5 | 2 => .rsR 4 | 3 => .rsR 3 | 4 => .rsR 2 | 5 => .rsR 1 | 6 => .rsR 0
  | 7 => .arR 3 | 8 => .alR 2 | 9 => .arR 2 | 10 => .alR 1 | 11 => .arR 1 | 12 => .alR 0 | _ => .arR 0

/-- What device `c` owes when `n` of its transfers remain. -/
def ow (c : Dev nD) : ℕ → CellTallies nD τ sig Unit
  | 0 => 0
  | n + 1 => ow c n + tallyAt (cellAt (peer c (seqK n)) (some (seqK n))) () N

/-- Before its second signal, and at launch. -/
def O₁ (c : Dev nD) : CellTallies nD τ sig Unit := ow c 14 + tallyAt (cellAt (nxt c) none) () 1
def O₀ (c : Dev nD) : CellTallies nD τ sig Unit := O₁ c + tallyAt (cellAt (prv c) none) () 1

def L (g : GSem nD τ sig) : Finset Unit := if g.1.2 = .tc then {()} else ∅

def lvK : Option (Option CK) → ℕ
  | some none => 1
  | some (some (.arR h)) => 7 + 2 * h.val
  | some (some (.alR h)) => 8 + 2 * h.val
  | some (some (.rsR t)) => 14 + t.val
  | _ => 0

def lv (g : GSem nD τ sig) (_ : Unit) : ℕ := lvK (kindOf g.2)

theorem lv_cell (c : Dev nD) (k : Option CK) : lv (cellAt c k) () = lvK (some k) := by
  unfold lv; rw [kindOf_cloc]

theorem L_of_ne (g : GSem nD τ sig) (h : g.1.2 ≠ .tc) : L g = ∅ := if_neg h
theorem L_tc (c : Dev nD) (sm : SemLoc sig) : L ((c : Thread nD τ), sm) = {()} := if_pos rfl

theorem ow_pos {c : Dev nD} {n : ℕ} {g : GSem nD τ sig} {u : Unit} (h : 0 < ow c n g u) :
    ∃ j, j < n ∧ g = cellAt (peer c (seqK j)) (some (seqK j)) := by
  induction n with
  | zero => exact absurd h (by show ¬ 0 < 0; decide)
  | succ n ih =>
    rw [ow, Pi.add_apply, Finsupp.add_apply, tallyAt_apply] at h
    by_cases h' : g = cellAt (peer c (seqK n)) (some (seqK n)) ∧ u = ()
    · exact ⟨n, Nat.lt_succ_self _, h'.1⟩
    · rw [if_neg h', Nat.add_zero] at h
      obtain ⟨j, hj, hg⟩ := ih h
      exact ⟨j, hj.trans (Nat.lt_succ_self _), hg⟩

theorem O₀_pos {c : Dev nD} {g : GSem nD τ sig} {u : Unit} (h : 0 < O₀ c g u) :
    (∃ j, j < 14 ∧ g = cellAt (peer c (seqK j)) (some (seqK j))) ∨ g = cellAt (nxt c) none ∨ g = cellAt (prv c) none := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (ow_pos h)

/-- The levels rise from the transfer a device makes first to the one it makes last. -/
theorem lv_seq : ∀ j : Fin 14, lvK (some (some (seqK j.val))) = 20 - j.val := by decide

theorem mayWait (c : Dev nD) (k : Option CK) (n : ℕ) (hn : n ≤ 14) (hk : lvK (some k) + n < 21) :
    (levAts L lv : sProp 𝕄) ⊢ MayWait (c : Thread nD τ) (cloc k) () (ow c n) :=
  MayOwe.of_cut (L := L) (lev := lv) (lvK (some k)) (fun p hp => by rw [Finset.mem_singleton.mp hp, L_tc]; exact Finset.mem_singleton_self _)
    (fun g u hg => by obtain ⟨j, hj, rfl⟩ := ow_pos hg; exact Finset.mem_singleton_self _)
    (fun p hp => by rw [Finset.mem_singleton.mp hp]; exact le_of_eq (lv_cell c k))
    (fun g u hg => by
      obtain ⟨j, hj, rfl⟩ := ow_pos hg
      rw [lv_cell, lv_seq ⟨j, hj.trans_le hn⟩]
      show _ < 20 - j
      omega)

theorem kindOf_stage (q : DmaSem sig) (hq : q.val < 6) : kindOf (SemLoc.dma q) = none := by
  unfold kindOf
  refine dif_neg ?_
  rintro ⟨_ | k, hk⟩
  · cases hk
  · have h : semOf k = q := by injection hk
    subst h
    revert hq; revert k; decide +kernel

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, hj, rfl⟩ | rfl | rfl <;> exact Finset.mem_singleton_self _)
      (fun p hp => by rw [Finset.mem_singleton.mp hp]; unfold lv; rw [kindOf_stage q hq]; exact le_refl _)
      (fun g u hg => by
        rcases O₀_pos hg with ⟨j, hj, rfl⟩ | rfl | rfl
        · rw [lv_cell, lv_seq ⟨j, hj⟩]; show 0 < 20 - j; omega
        · rw [lv_cell]; decide
        · rw [lv_cell]; decide)
  · rw [MayWait_zero]; iintro -; iempintro

end Cert.RingIdeal

end
-- ==== Proof.RingIdeal.Steps.lean ====
/- One step of the protocol each: a wait on a transfer's semaphore, the three kinds of transfer, the barrier's signals and
   its wait. -/
module

public import proofs.«01_k».proof.Proof.RingIdeal.Sched

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

abbrev 𝒱₀ : Variants := Variants.none

/-- Every cell of the ring, as the proof indexes them. -/
abbrev CI : Type := Dev nD × Option CK

/-- Every cell's invariant, under the names `K`, and that each has reached its one round. -/
def records (K : CI → ℕ) : sProp 𝕄 :=
  bigSep Finset.univ fun ck : CI => iprop(cellInv ER (Rd m) (K ck) (cellAt ck.1 ck.2) ∗ reached ER (cellAt ck.1 ck.2) 0)

instance records_persistent (K : CI → ℕ) : BI.Persistent (records m K) := by unfold records; infer_instance

/-- What every device knows throughout: the cells' invariants, write mode's, the levels. -/
def env (K : CI → ℕ) (ιw : ℕ) : sProp 𝕄 := iprop(records m K ∗ wmInv (wmE (F := F)) ιw ∗ levAts L lv)

instance env_persistent (K : CI → ℕ) (ιw : ℕ) : BI.Persistent (env m K ιw) := by unfold env; infer_instance

variable (K : CI → ℕ) (ιw : ℕ) (c : Dev nD)

theorem records_elem (ck : CI) :
    (bigSep Finset.univ fun ck : CI => (iprop(cellInv ER (Rd m) (K ck) (cellAt ck.1 ck.2) ∗ reached ER (cellAt ck.1 ck.2) 0) : sProp 𝕄))
      ⊢ iprop(cellInv ER (Rd m) (K ck) (cellAt ck.1 ck.2) ∗ reached ER (cellAt ck.1 ck.2) 0) :=
  bigSep_elim (Finset.mem_univ ck)

theorem records_at (k : Option CK) : records m K ⊢ iprop(cellInv ER (Rd m) (K (c, k)) (cellAt c k) ∗ reached ER (cellAt c k) 0) := by
  unfold records
  exact records_elem m K (c, k)

theorem env_inv (k : Option CK) : env m K ιw ⊢ cellInv ER (Rd m) (K (c, k)) (cellAt c k) := by
  unfold env
  iintro ⟨H, -⟩
  ihave H := (records_at m K c k) $$ H
  icases H with ⟨H, -⟩
  iexact H

theorem env_reached (k : Option CK) : env m K ιw ⊢ reached ER (cellAt c k) 0 := by
  unfold env
  iintro ⟨H, -⟩
  ihave H := (records_at m K c k) $$ H
  icases H with ⟨-, H⟩
  iexact H

theorem env_wm : env m K ιw ⊢ wmInv (wmE (F := F)) ιw := by unfold env; iintro ⟨-, H, -⟩; iexact H
theorem env_lev : env m K ιw ⊢ levAts L lv := by unfold env; iintro ⟨-, -, H⟩; iexact H

/-- What device `c` owes, `n` of its transfers remaining. -/
def Ow (n : ℕ) : sProp 𝕄 := iprop(∃ W, owes (c : Thread nD τ) (ow c n) W)

/-- The two states of a transfer cell of `c` not yet waited on: its credit is promised and its round is to come. -/
def pend (k : CK) : sProp 𝕄 := iprop(cred (tallyAt (cellAt c (some k)) () N) ∗ atPos ER (cellAt c (some k)) 0 ∅ 0)
/-- Its round is over. -/
def past (k : CK) : sProp 𝕄 := atPos ER (cellAt c (some k)) 1 ∅ 0
/-- The right to pay cell `k` of device `d`. -/
def tok (d : Dev nD) (k : CK) : sProp 𝕄 := dutyTok ER (cellAt d (some k)) 0 false

/-! ## Waiting -/

/-- The wait on cell `k`: with `n` transfers remaining, all of a higher level, it takes the payment. -/
theorem wait_step (k : CK) {n : ℕ} (hn : n ≤ 14) (hk : lvK (some (some k)) + n < 21)
    {sp sp' : Space} {src : Memref sig .tc sp S512x1024 .bf16} {dst : Memref sig .tc sp' S512x1024 .bf16} {hsrc : src.view.WordExact} {hdst : dst.view.WordExact}
    (hN : dst.view.dmaCredit = N) {sem : DmaSem sig} (hs : sem = semOf k)
    {α : Type} {Q : α → sProp 𝕄} (kk : PUnit → Prog (TpuEff nD τ sig (Elt F) Λ₀ .tc) α) :
    iprop(env m K ιw ∗ Ow c n ∗ pend c k)
      ⊢ iprop(((Ow c n ∗ past c k ∗ payOf m c (some k) false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  unfold Ow pend past
  iintro ⟨#He, ⟨%W, HO⟩, Hcr, Hat⟩ Hk
  ihave #Hinv := (env_inv m K ιw c (some k)) $$ He
  ihave Hlev := (env_lev m K ιw) $$ He
  ihave HM := (mayWait (F := F) c (some k) n hn hk) $$ Hlev
  iapply (Rounds.wp_wait_rest_token 𝒱₀ ER (Rd m) (c : Thread nD τ) none (κ := K (c, some k))
    (wpE_waitDma2_eq 𝒱₀ (c : Thread nD τ) none Set.univ) (Set.mem_univ _) () (O := ow c n) (W := W) (R := 0) (m := 0) (T := ∅)
    (by rw [Nat.zero_add, hN, expect_x])) $$ [HO Hcr Hat HM]
  · isplitl []; · iexact Hinv
    isplitl [Hcr]; · rw [hN]; iexact Hcr
    isplitl [HO]; · iexact HO
    isplitl [HM]; · iexact HM
    iexact Hat
  iintro ⟨HO, Hat, -, Hpay⟩
  iapply Hk
  isplitl [HO]; · iexists _; iexact HO
  isplitl [Hat]; · iexact Hat
  rw [← rest_x m c k]; iexact Hpay

/-! ## Transfers -/

theorem view_write_read {sp : Space} {s : Shape} {e : EltTy} (v : View sig .tc sp s e) (fd f : v.ty.Contents (Elt F)) {i : v.ty.Idx} (hi : i ∈ v.set) :
    v.write (Elt F) fd (v.read (Elt F) f) Finset.univ i = f i := by
  obtain ⟨x, -, rfl⟩ := Finset.mem_map.mp hi
  rw [View.write_emb_of_mem _ _ (Finset.mem_univ x)]
  unfold View.read
  rw [cast_cast, cast_eq]

/-- A copy of one filled slot of the gathered activations into the same slot of a neighbour's. -/
theorem send_slot (ks kr : CK) {n : ℕ} (hn : seqK n = kr) {d : Dev nD} (hd : d = peer c kr) {s : ℕ} {q : PosShare TreeShare}
    {off : Fin 3 → ℕ} (ho : off = ![s, 0, 0]) (h : ∀ a, off a + S1x512x1024.size a ≤ S8x512x1024.size a)
    (hpay₁ : xPt m c s q ⊢ payOf m c (some ks) false) (hpay₂ : xPt m (peer c kr) s fullShare ⊢ payOf m (peer c kr) (some kr) false)
    {sS sR : DmaSem sig} (hS : sS = semOf ks) (hR : sR = semOf kr)
    {hsc hsrc hdst hsem} {α : Type} {Q : α → sProp 𝕄} (kk : PUnit → Prog (TpuEff nD τ sig (Elt F) Λ₀ .tc) α) :
    iprop(env m K ιw ∗ xPt m c s q ∗ xAny (F := F) (peer c kr) s ∗ Ow c (n + 1) ∗ atPos ER (cellAt c (some ks)) 0 ∅ 0 ∗ tok c ks ∗ tok (peer c kr) kr)
      ⊢ iprop(((Ow c n ∗ pend c ks) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (gSlot off h) (.remote (Dev.tc d : Thread nD τ) (gSlot off h) (.dma sS) hsc) (.dma sR) hsrc hdst hsem) kk) Q) := by
  subst hS hR hd hn
  have hset : (gSlot off h).view.set = xI s := gSlot_set ho h
  unfold Ow pend tok xAny xPt
  iintro ⟨#He, Hsrc, ⟨%fd, Hdst⟩, ⟨%W, HO⟩, Hat, Htk, Htr⟩ Hk
  ihave #Hi₁ := (env_inv m K ιw c (some ks)) $$ He
  ihave #Hi₂ := (env_inv m K ιw (peer c (seqK n)) (some (seqK n))) $$ He
  ihave #Hr₁ := (env_reached m K ιw c (some ks)) $$ He
  ihave #Hr₂ := (env_reached m K ιw (peer c (seqK n)) (some (seqK n))) $$ He
  iapply (Rounds.wp_send_pointsTo (c' := (Dev.tc (peer c (seqK n)) : Thread nD τ)) (src := gSlot off h) (dst := gSlot off h) 𝒱₀ ER (Rd m) (c : Thread nD τ) none
    (κ₁ := K (c, some ks)) (κ₂ := K (peer c (seqK n), some (seqK n))) (r₁ := 0) (r₂ := 0)
    (d₁ := false) (d₂ := false) (fd := fd) (fs := xgF m) (q := q) (by rw [duties_x]; exact Finset.mem_singleton_self _)
    (by rw [duties_x]; exact Finset.mem_singleton_self _) () () N rfl (amount_x m c ks false) (amount_x m _ _ false) (ow c n) rfl (W := W)
    (by rw [payload_eq, hset]; exact hpay₁)
    (by
      rw [payload_eq]
      refine BIBase.Entails.trans (Q := xPt m (peer c (seqK n)) s fullShare) ?_ hpay₂
      unfold xPt
      rw [hset]
      refine Entails.of_eq (pointsTo_congr fun i hi => ?_)
      exact view_write_read (gSlot off h).view fd (xgF m) (by rw [hset]; exact hi))) $$ [Hsrc Hdst HO Htk Htr]
  · rw [hset]
    isplitl []; · iexact Hi₁
    isplitl []; · iexact Hi₂
    isplitl [Hsrc]; · iexact Hsrc
    isplitl [Hdst]; · iexact Hdst
    isplitl [HO]; · iexact HO
    isplitl [Htk]; · iexact Htk
    isplitl []; · iexact Hr₁
    isplitl [Htr]; · iexact Htr
    iexact Hr₂
  iintro ⟨Hcr, HO⟩
  iapply Hk
  isplitl [HO]; · iexists _; iexact HO
  isplitl [Hcr]; · iexact Hcr
  iexact Hat

/-- The copy of the send buffer into the right neighbour's slot `t`, which is in write mode. -/
theorem send_part (t : Fin 7) {n : ℕ} (hn : seqK n = .rsR t) {d : Dev nD} (hd : d = nxt c)
    {off : Fin 3 → ℕ} (ho : off = ![t.val, 0, 0]) (h : ∀ a, off a + S1x512x1024.size a ≤ S7x512x1024.size a)
    {sS sR : DmaSem sig} (hS : sS = semOf (.rsS t)) (hR : sR = semOf (.rsR t))
    {hsc hsrc hdst hsem} {α : Type} {Q : α → sProp 𝕄} (kk : PUnit → Prog (TpuEff nD τ sig (Elt F) Λ₀ .tc) α) :
    iprop(env m K ιw ∗ (sL c ↦[(sM.view.set : Finset _)]{fullShare} sndF m t.val c) ∗ rWm m (nxt c) t.val qA ∅ ∗ Ow c (n + 1)
        ∗ atPos ER (cellAt c (some (.rsS t))) 0 ∅ 0 ∗ tok (F := F) c (.rsS t) ∗ tok (F := F) (nxt c) (.rsR t))
      ⊢ iprop(((Ow c n ∗ pend c (.rsS t)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma sM (.remote (Dev.tc d : Thread nD τ) (rSlot off h) (.dma sS) hsc) (.dma sR) hsrc hdst hsem) kk) Q) := by
  subst hS hR hd
  have hset : (rSlot off h).view.set = rI t.val := rSlot_set ho h
  have hown : ow c (n + 1) = ow c n + tallyAt (cellAt (nxt c) (some (.rsR t))) () N := by rw [ow, hn]; rfl
  unfold Ow pend tok rWm
  iintro ⟨#He, Hsrc, ⟨%fd, Hdst⟩, ⟨%W, HO⟩, Hat, Htk, Htr⟩ Hk
  ihave #Hi₁ := (env_inv m K ιw c (some (.rsS t))) $$ He
  ihave #Hi₂ := (env_inv m K ιw (nxt c) (some (.rsR t))) $$ He
  ihave #Hr₁ := (env_reached m K ιw c (some (.rsS t))) $$ He
  ihave #Hr₂ := (env_reached m K ιw (nxt c) (some (.rsR t))) $$ He
  ihave #Hwm := (env_wm m K ιw) $$ He
  rw [hown]
  iapply (Rounds.wp_send (c' := (Dev.tc (nxt c) : Thread nD τ)) (src := sM) (dst := rSlot off h) 𝒱₀ ER (Rd m) (c : Thread nD τ) none
    (κ₁ := K (c, some (.rsS t))) (κ₂ := K (nxt c, some (.rsR t))) (r₁ := 0) (r₂ := 0)
    (d₁ := false) (d₂ := false) (fs := sndF m t.val c) (q := fullShare)
    (R := willBeTo (Ix := Unit) (Name := ℕ) (Lvl := ℕ) (wmE (F := F)) (rL (nxt c)) (rI t.val) qA fd (fun i => some (rcvF m (nxt c) i)) (∅ ∪ (rSlot off h).view.set))
    (by rw [duties_x]; exact Finset.mem_singleton_self _)
    (by rw [duties_x]; exact Finset.mem_singleton_self _) () () N rfl (amount_x m c _ false) (amount_x m _ _ false) (ow c n) rfl (W := W)
    (by
      rw [payload_eq]
      unfold payOf sAny
      iintro H
      iexists (sndF m t.val c)
      iexact H)
    (by
      rw [payload_eq, hset, Finset.empty_union]
      unfold payOf rWm
      iintro H
      iexists fd
      iexact H)) $$ [Hsrc Hdst HO Htk Htr]
  · isplitl []; · iexact Hi₁
    isplitl []; · iexact Hi₂
    isplitl [Hsrc]; · iexact Hsrc
    isplitl [Hdst]
    · iapply (willBeTo_writeUpdate (ιwm := ιw) (emb := wmE (F := F)) (nxt c : Thread nD τ) (v := (rSlot off h).view) (S := rI t.val) (q := qA) (f := fd)
        (g := fun i => some (rcvF m (nxt c) i)) (W := ∅) (w := sM.view.read (Elt F) (sndF m t.val c)) (by rw [hset]) ?_) $$ [Hdst]
      · rw [View.admitted_some_iff]
        intro x _
        show sndF m t.val c x = rcvF m (nxt c) ((rSlot off h).view.emb x)
        rw [rSlot_emb t.isLt ho h x]
        show _ = sndF m t.val (prv (nxt c)) (ix2 (x 0) (x 1))
        rw [prv_nxt]
        exact congrArg (sndF m t.val c) (eq_ix2 x)
      · isplitl []; · iexact Hwm
        iexact Hdst
    isplitl [HO]; · iexact HO
    isplitl [Htk]; · iexact Htk
    isplitl []; · iexact Hr₁
    isplitl [Htr]; · iexact Htr
    iexact Hr₂
  iintro ⟨Hcr, HO⟩
  iapply Hk
  isplitl [HO]; · iexists _; iexact HO
  isplitl [Hcr]; · iexact Hcr
  iexact Hat

end Cert.RingIdeal

end
-- ==== Proof.RingIdeal.Ops.lean ====
/- One memory operation of the body each: the loads of the staged blocks, of a gathered slot, of the keys and values; the
   stores that fill a slot or a slab; the barrier's handshake. -/
module

public import proofs.«01_k».proof.Proof.RingIdeal.Steps

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-- The weakest precondition of a program of device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- Before the handshake, and after it. -/
def barPre : sProp 𝕄 :=
  iprop((∃ W, owes (c : Thread nD τ) (O₀ c) W) ∗ dutyTok ER (cellAt (prv c) none) 0 true ∗ dutyTok ER (cellAt (nxt c) none) 0 false
    ∗ cred (tallyAt (cellAt c none) () 2) ∗ atPos ER (cellAt c none) 0 ∅ 0 ∗ barR m (prv c) c ∗ barL (nxt c) c)
def barPost : sProp 𝕄 := iprop(Ow c 14 ∗ atPos ER (cellAt c none) 1 ∅ 0 ∗ barL c (prv c) ∗ barR m c (nxt c))

theorem signal_step (b : Bool) (d d' : Dev nD) (hd : d' = d) (O : CellTallies nD τ sig Unit) {α : Type} {Q : α → sProp 𝕄} (kk : PUnit → Prog (TpuEff nD τ sig (Elt F) Λ₀ .tc) α) :
    iprop(env m K ιw ∗ (∃ W, owes (c : Thread nD τ) (O + tallyAt (cellAt d none) () 1) W) ∗ dutyTok ER (cellAt d none) 0 b ∗ payOf m d none b)
      ⊢ iprop(((∃ W, owes (c : Thread nD τ) O W) -∗ WP c (kk ⟨⟩) Q)
        -∗ WP c (.op (.semSignal ((d', .tc) : Thread nD τ) barS (BitVec.toInt 1#32)) kk) Q) := by
  subst hd
  iintro ⟨#He, ⟨%W, HO⟩, Htok, Hpay⟩ Hk
  ihave #Hi := (env_inv m K ιw d' none) $$ He
  ihave #Hr := (env_reached m K ιw d' none) $$ He
  iapply (Rounds.wp_signal 𝒱₀ ER (Rd m) (c : Thread nD τ) none (dst := (d' : Thread nD τ)) (κ := K (d', none))
      (d := b) (by rw [duties_bar]; exact Finset.mem_univ _) ((amount_bar m d' b).trans (by decide)) () O rfl)
    $$ [HO Htok Hpay]
  · isplitl []; · iexact Hi
    isplitl [HO]; · iexact HO
    isplitl [Htok]; · iexact Htok
    isplitl [Hpay]; · iapply (Entails.of_eq (payload_eq m d' none b).symm) $$ Hpay
    iexact Hr
  iintro HO
  iapply Hk
  iexists W; iexact HO

theorem barwait_step {α : Type} {Q : α → sProp 𝕄} (kk : PUnit → Prog (TpuEff nD τ sig (Elt F) Λ₀ .tc) α) :
    iprop(env m K ιw ∗ Ow c 14 ∗ cred (tallyAt (cellAt c none) () 2) ∗ atPos ER (cellAt c none) 0 ∅ 0)
      ⊢ iprop((barPost m c -∗ WP c (kk ⟨⟩) Q) -∗ WP c (.op (.semWait barS (BitVec.toInt 2#32)) kk) Q) := by
  unfold Ow barPost
  iintro ⟨#He, ⟨%W, HO⟩, Hcr, Hat⟩ Hk
  ihave #Hinv := (env_inv m K ιw c none) $$ He
  ihave Hlev := (env_lev m K ιw) $$ He
  ihave HM := (mayWait (F := F) c none 14 (le_refl _) (by decide)) $$ Hlev
  iapply (Rounds.wp_wait_rest_token 𝒱₀ ER (Rd m) (c : Thread nD τ) none (κ := K (c, none))
    (wpE_semWait_eq 𝒱₀ (c : Thread nD τ) none Set.univ) (Set.mem_univ _) () (O := ow c 14) (W := W) (R := 0) (m := 0) (T := ∅)
    (by rw [expect_bar]; decide)) $$ [HO Hcr Hat HM]
  · isplitl []; · iexact Hinv
    isplitl [Hcr]; · iexact Hcr
    isplitl [HO]; · iexact HO
    isplitl [HM]; · iexact HM
    iexact Hat
  iintro ⟨HO, Hat, -, Hpay⟩
  ihave Hp := (Entails.of_eq (rest_bar m c)) $$ Hpay
  icases Hp with ⟨HL, HR⟩
  iapply Hk
  unfold Ow
  isplitl [HO]; · iexists _; iexact HO
  isplitl [Hat]; · iexact Hat
  isplitl [HL]; · iexact HL
  iexact HR

/-! ## Staged blocks -/

def stX : sProp 𝕄 := xM.view.loc (c : Thread nD τ) ↦{fullShare} xst m c
def stWq : sProp 𝕄 := wqM.view.loc (c : Thread nD τ) ↦{fullShare} wqst m c
def stWo : sProp 𝕄 := woM.view.loc (c : Thread nD τ) ↦{fullShare} wost m c
def stWk : sProp 𝕄 := wkM.view.loc (c : Thread nD τ) ↦{fullShare} wkst m c
def stWv : sProp 𝕄 := wvM.view.loc (c : Thread nD τ) ↦{fullShare} wvst m c

theorem z2 : (![0, 0] : Fin 2 → ℕ) = fun _ => 0 := funext fun a => by fin_cases a <;> rfl
theorem z3 : (![0, 0, 0] : Fin 3 → ℕ) = fun _ => 0 := funext fun a => by fin_cases a <;> rfl

theorem load_x {hb} {hl} {α : Type} {Q : α → sProp 𝕄} (kk : Vec F S1x512x1024 .bf16 → Prog (TpuEff nD τ sig (Elt F) Λ₀ .tc) α) :
    stX m c ⊢ iprop((stX m c -∗ WP c (kk (xst m c)) Q)
      -∗ WP c (.op (.load xM (Rect.unit (s := S1x512x1024) ![0, 0, 0] S1x512x1024.size hb).toLoadRect hl) kk) Q) := by
  unfold stX
  iintro H Hk
  iapply (wp_load 𝒱₀ (c : Thread nD τ) none Set.univ (m := xM) (Finset.subset_univ _)) $$ H
  iintro H
  rw [show xM.view.readAt (Elt F) (Rect.unit (s := S1x512x1024) ![0, 0, 0] S1x512x1024.size hb).toLoadRect (xst m c) = xst m c from
    Memref.readAt_unit_zero (Elt F) cc0_stg0_0 z3 _ _]
  iapply Hk; iexact H

theorem load_wq {hb} {hl} {α : Type} {Q : α → sProp 𝕄} (kk : Vec F S1024x1024 .bf16 → Prog (TpuEff nD τ sig (Elt F) Λ₀ .tc) α) :
    stWq m c ⊢ iprop((stWq m c -∗ WP c (kk (wqst m c)) Q)
      -∗ WP c (.op (.load wqM (Rect.unit (s := S1024x1024) ![0, 0] S1024x1024.size hb).toLoadRect hl) kk) Q) := by
  unfold stWq
  iintro H Hk
  iapply (wp_load 𝒱₀ (c : Thread nD τ) none Set.univ (m := wqM) (Finset.subset_univ _)) $$ H
  iintro H
  rw [show wqM.view.readAt (Elt F) (Rect.unit (s := S1024x1024) ![0, 0] S1024x1024.size hb).toLoadRect (wqst m c) = wqst m c from
    Memref.readAt_unit_zero (Elt F) cc0_stg1_0 z2 _ _]
  iapply Hk; iexact H

theorem load_wo {hb} {hl} {α : Type} {Q : α → sProp 𝕄} (kk : Vec F S1024x1024 .bf16 → Prog (TpuEff nD τ sig (Elt F) Λ₀ .tc) α) :
    stWo m c ⊢ iprop((stWo m c -∗ WP c (kk (wost m c)) Q)
      -∗ WP c (.op (.load woM (Rect.unit (s := S1024x1024) ![0, 0] S1024x1024.size hb).toLoadRect hl) kk) Q) := by
  unfold stWo
  iintro H Hk
  iapply (wp_load 𝒱₀ (c : Thread nD τ) none Set.univ (m := woM) (Finset.subset_univ _)) $$ H
  iintro H
  rw [show woM.view.readAt (Elt F) (Rect.unit (s := S1024x1024) ![0, 0] S1024x1024.size hb).toLoadRect (wost m c) = wost m c from
    Memref.readAt_unit_zero (Elt F) cc0_stg2_0 z2 _ _]
  iapply Hk; iexact H

theorem load_wk {hb} {hl} {α : Type} {Q : α → sProp 𝕄} (kk : Vec F S1024x1024 .bf16 → Prog (TpuEff nD τ sig (Elt F) Λ₀ .tc) α) :
    stWk m c ⊢ iprop((stWk m c -∗ WP c (kk (wkst m c)) Q)
      -∗ WP c (.op (.load wkM (Rect.unit (s := S1024x1024) ![0, 0] S1024x1024.size hb).toLoadRect hl) kk) Q) := by
  unfold stWk
  iintro H Hk
  iapply (wp_load 𝒱₀ (c : Thread nD τ) none Set.univ (m := wkM) (Finset.subset_univ _)) $$ H
  iintro H
  rw [show wkM.view.readAt (Elt F) (Rect.unit (s := S1024x1024) ![0, 0] S1024x1024.size hb).toLoadRect (wkst m c) = wkst m c from
    Memref.readAt_unit_zero (Elt F) cc0_stg3_0 z2 _ _]
  iapply Hk; iexact H

theorem load_wv {hb} {hl} {α : Type} {Q : α → sProp 𝕄} (kk : Vec F S1024x1024 .bf16 → Prog (TpuEff nD τ sig (Elt F) Λ₀ .tc) α) :
    stWv m c ⊢ iprop((stWv m c -∗ WP c (kk (wvst m c)) Q)
      -∗ WP c (.op (.load wvM (Rect.unit (s := S1024x1024) ![0, 0] S1024x1024.size hb).toLoadRect hl) kk) Q) := by
  unfold stWv
  iintro H Hk
  iapply (wp_load 𝒱₀ (c : Thread nD τ) none Set.univ (m := wvM) (Finset.subset_univ _)) $$ H
  iintro H
  rw [show wvM.view.readAt (Elt F) (Rect.unit (s := S1024x1024) ![0, 0] S1024x1024.size hb).toLoadRect (wvst m c) = wvst m c from
    Memref.readAt_unit_zero (Elt F) cc0_stg4_0 z2 _ _]
  iapply Hk; iexact H

/-! ## Slots of the gathered activations -/

theorem setOn_toLoadRect {s : Shape} {e : EltTy} (b : Ref sig .tc) (r : Rect b.ty.shape) :
    (Memref.whole b : Memref sig .tc _ _ _).view.setOn r.toLoadRect.set = r.set := by
  show Finset.map (View.whole b).emb _ = _
  ext i
  simp [View.emb_whole]

theorem load_slot {s : ℕ} (hs : s < 8) {q : PosShare TreeShare} {off : Fin 3 → ℕ} (ho : off = ![s, 0, 0]) {hb} {hl}
    {α : Type} {Q : α → sProp 𝕄} (kk : Vec F S1x512x1024 .bf16 → Prog (TpuEff nD τ sig (Elt F) Λ₀ .tc) α) :
    xPt m c s q ⊢ iprop((xPt m c s q -∗ WP c (kk (xSl m s hs)) Q)
      -∗ WP c (.op (.load gM (Rect.unit (s := S8x512x1024) off S1x512x1024.size hb).toLoadRect hl) kk) Q) := by
  unfold xPt
  iintro H Hk
  iapply (wp_load 𝒱₀ (c : Thread nD τ) none Set.univ (m := gM) (S := xI s)
    (by rw [← x_rect_set ho hb]; exact le_of_eq (setOn_toLoadRect (s := S8x512x1024) (e := .bf16) cc0_scratch0 _))) $$ H
  iintro H
  rw [x_readAt (xgF m) hs ho hb]
  iapply Hk; iexact H

/-- A load whose value is not used. -/
theorem load_any {s : ℕ} {off : Fin 3 → ℕ} (ho : off = ![s, 0, 0]) {hb} {hl}
    {α : Type} {Q : α → sProp 𝕄} (kk : Vec F S1x512x1024 .bf16 → Prog (TpuEff nD τ sig (Elt F) Λ₀ .tc) α) :
    xAny (F := F) c s ⊢ iprop((∀ v, xAny (F := F) c s -∗ WP c (kk v) Q)
      -∗ WP c (.op (.load gM (Rect.unit (s := S8x512x1024) off S1x512x1024.size hb).toLoadRect hl) kk) Q) := by
  unfold xAny
  iintro ⟨%f, H⟩ Hk
  iapply (wp_load 𝒱₀ (c : Thread nD τ) none Set.univ (m := gM) (S := xI s)
    (by rw [← x_rect_set ho hb]; exact le_of_eq (setOn_toLoadRect (s := S8x512x1024) (e := .bf16) cc0_scratch0 _))) $$ H
  iintro H
  iapply Hk; iexists f; iexact H

/-- The device's own block goes to its own slot. -/
theorem store_own {off : Fin 3 → ℕ} (ho : off = ![sl c 0, 0, 0]) {hb} {hx} {hm} {α : Type} {Q : α → sProp 𝕄} (kk : PUnit → Prog (TpuEff nD τ sig (Elt F) Λ₀ .tc) α) :
    xAny (F := F) c (sl c 0) ⊢ iprop((xPt m c (sl c 0) fullShare -∗ WP c (kk ⟨⟩) Q)
      -∗ WP c (.op (.store gM (Rect.unit (s := S8x512x1024) off S1x512x1024.size hb) (k0_pay16 (xst m c)) Finset.univ hx hm) kk) Q) := by
  unfold xAny xPt
  iintro ⟨%f, H⟩ Hk
  iapply (wp_store 𝒱₀ (c : Thread nD τ) none Set.univ (m := gM) (r := Rect.unit (s := S8x512x1024) off S1x512x1024.size hb) (S := (xI (sl c 0) : Finset S8x512x1024.Idx)) (Mk := Finset.univ)
    (by rw [← x_rect_set ho hb]; exact le_of_eq ((View.setOn_univ _).trans (View.set_slice_whole _ _)))) $$ H
  iintro H
  iapply Hk
  iapply (Entails.of_eq (pointsTo_congr fun i hi => ?_)) $$ H
  refine (x_write f ho hb (k0_pay16 (xst m c)) i hi).trans ?_
  unfold xgF
  rw [mem_xI, sl_zero] at hi
  rw [show (⟨(i 0).val, (i 0).isLt⟩ : Dev nD) = c from Fin.ext hi]

/-- A filled slot in its three shares. -/
theorem split3 (s : ℕ) : xPt m c s fullShare ⊢ iprop(xPt m c s qA ∗ xPt m c s qB ∗ xPt m c s qC) := by
  unfold xPt
  refine (pointsTo_share (PosShare.mem_left_op_right fullShare)).1.trans (sep_mono_right ?_)
  exact (pointsTo_share (PosShare.mem_left_op_right fullShare.right)).1

/-! ## Slabs of the keys and the values -/

/-- The keys of device `c`, the slabs of `S` computed. -/
def kAt (S : Finset ℕ) : sProp 𝕄 := iprop(∃ f, ⌜∀ i : S4096x1024.Idx, (i 0).val / 512 ∈ S → f i = kF m c i⌝ ∗ kL c ↦{fullShare} f)

theorem load_kany (S : Finset ℕ) {off : Fin 2 → ℕ} {hb} {hl} {α : Type} {Q : α → sProp 𝕄} (kk : Vec F S512x1024 .bf16 → Prog (TpuEff nD τ sig (Elt F) Λ₀ .tc) α) :
    kAt m c S ⊢ iprop((∀ v, kAt m c S -∗ WP c (kk v) Q)
      -∗ WP c (.op (.load kM (Rect.unit (s := S4096x1024) off S512x1024.size hb).toLoadRect hl) kk) Q) := by
  unfold kAt
  iintro ⟨%f, %hf, H⟩ Hk
  iapply (wp_load 𝒱₀ (c : Thread nD τ) none Set.univ (m := kM) (Finset.subset_univ _)) $$ H
  iintro H
  iapply Hk
  iexists f
  isplitl []; · ipureintro; exact hf
  iexact H

theorem store_k (S : Finset ℕ) {s : ℕ} (hs : s < 8) {off : Fin 2 → ℕ} (ho : off = ![512 * s, 0]) {w : Vec F S512x1024 .bf16} (hw : w = k0_pay18 (xSl m s hs) (wkst m c))
    {hb} {hx} {hm} {α : Type} {Q : α → sProp 𝕄} (kk : PUnit → Prog (TpuEff nD τ sig (Elt F) Λ₀ .tc) α) :
    kAt m c S ⊢ iprop((kAt m c (insert s S) -∗ WP c (kk ⟨⟩) Q)
      -∗ WP c (.op (.store kM (Rect.unit (s := S4096x1024) off S512x1024.size hb) w Finset.univ hx hm) kk) Q) := by
  unfold kAt
  iintro ⟨%f, %hf, H⟩ Hk
  iapply (wp_store 𝒱₀ (c : Thread nD τ) none Set.univ (m := kM) (r := Rect.unit (s := S4096x1024) off S512x1024.size hb) (f := f) (S := Finset.univ) (Mk := Finset.univ) (Finset.subset_univ _)) $$ H
  iintro H
  iapply Hk
  iexists _
  isplitl []
  swap
  · iexact H
  ipureintro
  intro i hi
  refine (k_write ho hb f w i).trans ?_
  by_cases h : i ∈ kI s
  · rw [if_pos h]
    rw [mem_kI] at h
    subst h hw
    rfl
  · rw [if_neg h]
    rw [mem_kI] at h
    exact hf i ((Finset.mem_insert.mp hi).resolve_left h)

theorem kAt_full (S : Finset ℕ) (hS : ∀ s, s < 8 → s ∈ S) : kAt m c S ⊢ (kL c ↦{fullShare} kF m c) := by
  unfold kAt
  iintro ⟨%f, %hf, H⟩
  rw [show f = kF m c from funext fun i => hf i (hS _ (row_div_lt i))]
  iexact H

theorem kAt_intro (f : Buf (Elt F) (kL c)) : (kL c ↦{fullShare} f) ⊢ kAt m c ∅ := by
  unfold kAt
  iintro H
  iexists f
  isplitl []
  · ipureintro; intro i hi; exact absurd hi (Finset.notMem_empty _)
  iexact H

/-- The values of device `c`, the slabs of `S` computed. -/
def vAt (S : Finset ℕ) : sProp 𝕄 := iprop(∃ f, ⌜∀ i : S4096x1024.Idx, (i 0).val / 512 ∈ S → f i = vF m c i⌝ ∗ vL c ↦{fullShare} f)

theorem load_vany (S : Finset ℕ) {off : Fin 2 → ℕ} {hb} {hl} {α : Type} {Q : α → sProp 𝕄} (kk : Vec F S512x1024 .bf16 → Prog (TpuEff nD τ sig (Elt F) Λ₀ .tc) α) :
    vAt m c S ⊢ iprop((∀ v, vAt m c S -∗ WP c (kk v) Q)
      -∗ WP c (.op (.load vM (Rect.unit (s := S4096x1024) off S512x1024.size hb).toLoadRect hl) kk) Q) := by
  unfold vAt
  iintro ⟨%f, %hf, H⟩ Hk
  iapply (wp_load 𝒱₀ (c : Thread nD τ) none Set.univ (m := vM) (Finset.subset_univ _)) $$ H
  iintro H
  iapply Hk
  iexists f
  isplitl []; · ipureintro; exact hf
  iexact H

theorem store_v (S : Finset ℕ) {s : ℕ} (hs : s < 8) {off : Fin 2 → ℕ} (ho : off = ![512 * s, 0]) {w : Vec F S512x1024 .bf16} (hw : w = k0_pay18 (xSl m s hs) (wvst m c))
    {hb} {hx} {hm} {α : Type} {Q : α → sProp 𝕄} (kk : PUnit → Prog (TpuEff nD τ sig (Elt F) Λ₀ .tc) α) :
    vAt m c S ⊢ iprop((vAt m c (insert s S) -∗ WP c (kk ⟨⟩) Q)
      -∗ WP c (.op (.store vM (Rect.unit (s := S4096x1024) off S512x1024.size hb) w Finset.univ hx hm) kk) Q) := by
  unfold vAt
  iintro ⟨%f, %hf, H⟩ Hk
  iapply (wp_store 𝒱₀ (c : Thread nD τ) none Set.univ (m := vM) (r := Rect.unit (s := S4096x1024) off S512x1024.size hb) (f := f) (S := Finset.univ) (Mk := Finset.univ) (Finset.subset_univ _)) $$ H
  iintro H
  iapply Hk
  iexists _
  isplitl []
  swap
  · iexact H
  ipureintro
  intro i hi
  refine (v_write ho hb f w i).trans ?_
  by_cases h : i ∈ kI s
  · rw [if_pos h]
    rw [mem_kI] at h
    subst h hw
    rfl
  · rw [if_neg h]
    rw [mem_kI] at h
    exact hf i ((Finset.mem_insert.mp hi).resolve_left h)

theorem vAt_full (S : Finset ℕ) (hS : ∀ s, s < 8 → s ∈ S) : vAt m c S ⊢ (vL c ↦{fullShare} vF m c) := by
  unfold vAt
  iintro ⟨%f, %hf, H⟩
  rw [show f = vF m c from funext fun i => hf i (hS _ (row_div_lt i))]
  iexact H

theorem vAt_intro (f : Buf (Elt F) (vL c)) : (vL c ↦{fullShare} f) ⊢ vAt m c ∅ := by
  unfold vAt
  iintro H
  iexists f
  isplitl []
  · ipureintro; intro i hi; exact absurd hi (Finset.notMem_empty _)
  iexact H

end Cert.RingIdeal

end
-- ==== Proof.RingIdeal.Recv.lean ====
/- The received partial sums: a slot handed out in write mode, and had back once its transfer is in; the loads and stores of the
   loop that touch the received sums, the send buffer and the result. -/
module

public import proofs.«01_k».proof.Proof.RingIdeal.Ops

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-- Both shares of a slot in write mode make it write mode at the full share, the marks together. -/
theorem rWm_join (s : ℕ) (W : Finset S7x512x1024.Idx) :
    iprop(rWm m c s qA W ∗ rWm m c s fullShare.right ∅) ⊢ rWm m c s fullShare (W ∪ ∅) := by
  unfold rWm
  iintro ⟨⟨%f, H₁⟩, ⟨%g, H₂⟩⟩
  icombine H₁ H₂ as H
  ihave %hag := BI.Region.willBe_agree $$ H
  icases H with ⟨H₁, H₂⟩
  have hf : ∀ i ∈ rI s, g i = f i := fun i hi => ((hag i (Finset.mem_inter.mpr ⟨hi, hi⟩)).1.1).symm
  ihave H₂' := (Entails.of_eq (BI.Region.willBe_congr (ι := (wmEmb Unit (wmE (F := F))).toEmb) (k := rL c) (I := rI s) (f := g) (f' := f) (q := fullShare.right)
    hf (fun _ _ => rfl) (fun _ _ => Iff.rfl))) $$ H₂
  icombine H₁ H₂' as H
  iexists f
  iexact H

/-- A slot whose transfer is in holds what was sent. -/
theorem received (s : ℕ) : iprop(env m K ιw ∗ rWm m c s qA (rI s) ∗ rWm m c s fullShare.right ∅) ⊢ |={Set.univ}=> rPt m c s := by
  iintro ⟨#He, H⟩
  ihave H := (rWm_join m c s (rI s)) $$ H
  unfold rWm
  icases H with ⟨%f, H⟩
  ihave #Hwm := (env_wm m K ιw) $$ He
  imod (willBeTo_castOut_some (ℓ := rL c) (emb := wmE (F := F)) (ιwm := ιw) (g := rcvF m c)) $$ [H] with H
  · isplitl []; · iexact Hwm
    iexact H
  imodintro
  unfold rPt
  iapply (Entails.of_eq (pointsTo_congr fun i hi => ?_)) $$ H
  rw [Finset.union_empty]
  exact Finset.piecewise_eq_of_mem _ _ _ hi

theorem rM_setOn {s : ℕ} {off : Fin 3 → ℕ} (ho : off = ![s, 0, 0]) (hb : ∀ a, off a + S1x512x1024.size a ≤ S7x512x1024.size a) :
    rM.view.setOn (Rect.unit (s := S7x512x1024) off S1x512x1024.size hb).toLoadRect.set ⊆ rI s := by
  rw [← r_rect_set ho hb]; exact le_of_eq (setOn_toLoadRect (s := S7x512x1024) (e := .bf16) cc0_scratch3 _)

/-- The load of a slot that is out in write mode: its value is not known. -/
theorem load_out {s : ℕ} {q : PosShare TreeShare} {W : Finset S7x512x1024.Idx} {off : Fin 3 → ℕ} (ho : off = ![s, 0, 0]) {hb} {hl}
    {α : Type} {Q : α → sProp 𝕄} (kk : Vec F S1x512x1024 .bf16 → Prog (TpuEff nD τ sig (Elt F) Λ₀ .tc) α) :
    iprop(env m K ιw ∗ rWm m c s q W) ⊢ iprop((∀ v, rWm m c s q W -∗ WP c (kk v) Q)
      -∗ WP c (.op (.load rM (Rect.unit (s := S7x512x1024) off S1x512x1024.size hb).toLoadRect hl) kk) Q) := by
  unfold rWm
  iintro ⟨#He, ⟨%f, H⟩⟩ Hk
  ihave #Hwm := (env_wm m K ιw) $$ He
  iapply (wp_load_willBeTo 𝒱₀ (c : Thread nD τ) none Set.univ (m := rM) (S := rI s) (rM_setOn ho hb)) $$ [H]
  · isplitl []; · iexact Hwm
    iexact H
  iintro %cur %W' - H
  iapply Hk
  iexists f; iexact H

/-- The load of a slot received. -/
theorem load_in {s : ℕ} (hs : s < 7) {off : Fin 3 → ℕ} (ho : off = ![s, 0, 0]) {hb} {hl}
    {α : Type} {Q : α → sProp 𝕄} (kk : Vec F S1x512x1024 .bf16 → Prog (TpuEff nD τ sig (Elt F) Λ₀ .tc) α) :
    rPt m c s ⊢ iprop((rPt m c s -∗ WP c (kk (up (sndF m s (prv c)))) Q)
      -∗ WP c (.op (.load rM (Rect.unit (s := S7x512x1024) off S1x512x1024.size hb).toLoadRect hl) kk) Q) := by
  unfold rPt
  iintro H Hk
  iapply (wp_load 𝒱₀ (c : Thread nD τ) none Set.univ (m := rM) (S := rI s) (rM_setOn ho hb)) $$ H
  iintro H
  rw [r_readAt (rcvF m c) hs ho hb]
  iapply Hk; iexact H

/-! ## The send buffer and the result -/

theorem load_s {hb} {hl} {α : Type} {Q : α → sProp 𝕄} (kk : Vec F S512x1024 .bf16 → Prog (TpuEff nD τ sig (Elt F) Λ₀ .tc) α) :
    sAny (F := F) c ⊢ iprop((∀ v, sAny (F := F) c -∗ WP c (kk v) Q)
      -∗ WP c (.op (.load sM (Rect.unit (s := S512x1024) ![0, 0] S512x1024.size hb).toLoadRect hl) kk) Q) := by
  unfold sAny
  iintro ⟨%f, H⟩ Hk
  iapply (wp_load 𝒱₀ (c : Thread nD τ) none Set.univ (m := sM) (S := sM.view.set) (View.setOn_subset_set _ _)) $$ H
  iintro H
  iapply Hk
  iexists f; iexact H

theorem store_s {w w' : Vec F S512x1024 .bf16} (hw : w = w') {hb} {hx} {hm} {α : Type} {Q : α → sProp 𝕄} (kk : PUnit → Prog (TpuEff nD τ sig (Elt F) Λ₀ .tc) α) :
    sAny (F := F) c ⊢ iprop(((sL c ↦[(sM.view.set : Finset _)]{fullShare} w') -∗ WP c (kk ⟨⟩) Q)
      -∗ WP c (.op (.store sM (Rect.unit (s := S512x1024) ![0, 0] S512x1024.size hb) w Finset.univ hx hm) kk) Q) := by
  subst hw
  unfold sAny
  iintro ⟨%f, H⟩ Hk
  iapply (wp_store 𝒱₀ (c : Thread nD τ) none Set.univ (m := sM) (r := Rect.unit (s := S512x1024) ![0, 0] S512x1024.size hb) (f := f) (S := sM.view.set) (Mk := Finset.univ)
    (by rw [show sM.view.set = Finset.univ from View.set_whole _]; exact Finset.subset_univ _)) $$ H
  iintro H
  rw [show (sM.access (Rect.unit (s := S512x1024) ![0, 0] S512x1024.size hb)).write (Elt F) f w Finset.univ = w from
    Memref.write_access_unit_zero_univ (Elt F) cc0_scratch4 z2 _ f w]
  iapply Hk; iexact H

/-- The result's staged block, not yet computed, and computed. -/
def oAny : sProp 𝕄 := iprop(∃ f, oM.view.loc (c : Thread nD τ) ↦{fullShare} f)
def oPt : sProp 𝕄 := oM.view.loc (c : Thread nD τ) ↦{fullShare} outF m c

theorem load_o {hb} {hl} {α : Type} {Q : α → sProp 𝕄} (kk : Vec F S1x512x1024 .f32 → Prog (TpuEff nD τ sig (Elt F) Λ₀ .tc) α) :
    oAny (F := F) c ⊢ iprop((∀ v, oAny (F := F) c -∗ WP c (kk v) Q)
      -∗ WP c (.op (.load oM (Rect.unit (s := S1x512x1024) ![0, 0, 0] S1x512x1024.size hb).toLoadRect hl) kk) Q) := by
  unfold oAny
  iintro ⟨%f, H⟩ Hk
  iapply (wp_load 𝒱₀ (c : Thread nD τ) none Set.univ (m := oM) (Finset.subset_univ _)) $$ H
  iintro H
  iapply Hk
  iexists f; iexact H

theorem store_o {w : Vec F S1x512x1024 .f32} (hw : w = outF m c) {hb} {hx} {hm} {α : Type} {Q : α → sProp 𝕄} (kk : PUnit → Prog (TpuEff nD τ sig (Elt F) Λ₀ .tc) α) :
    oAny (F := F) c ⊢ iprop((oPt m c -∗ WP c (kk ⟨⟩) Q)
      -∗ WP c (.op (.store oM (Rect.unit (s := S1x512x1024) ![0, 0, 0] S1x512x1024.size hb) w Finset.univ hx hm) kk) Q) := by
  subst hw
  unfold oAny oPt
  iintro ⟨%f, H⟩ Hk
  iapply (wp_store 𝒱₀ (c : Thread nD τ) none Set.univ (m := oM) (r := Rect.unit (s := S1x512x1024) ![0, 0, 0] S1x512x1024.size hb) (f := f) (S := Finset.univ) (Mk := Finset.univ) (Finset.subset_univ _)) $$ H
  iintro H
  rw [show (oM.access (Rect.unit (s := S1x512x1024) ![0, 0, 0] S1x512x1024.size hb)).write (Elt F) f (outF m c) Finset.univ = outF m c from
    Memref.write_access_unit_zero_univ (Elt F) cc0_stg5_0 z3 _ f _]
  iapply Hk; iexact H

/-! ## The whole buffers the loop loads from -/

def xW : sProp 𝕄 := xL c ↦{fullShare} xgF m
def kW : sProp 𝕄 := kL c ↦{fullShare} kF m c
def vW : sProp 𝕄 := vL c ↦{fullShare} vF m c

theorem load_xw {s : ℕ} (hs : s < 8) {off : Fin 3 → ℕ} (ho : off = ![s, 0, 0]) {hb} {hl}
    {α : Type} {Q : α → sProp 𝕄} (kk : Vec F S1x512x1024 .bf16 → Prog (TpuEff nD τ sig (Elt F) Λ₀ .tc) α) :
    xW m c ⊢ iprop((xW m c -∗ WP c (kk (xSl m s hs)) Q)
      -∗ WP c (.op (.load gM (Rect.unit (s := S8x512x1024) off S1x512x1024.size hb).toLoadRect hl) kk) Q) := by
  unfold xW
  iintro H Hk
  iapply (wp_load 𝒱₀ (c : Thread nD τ) none Set.univ (m := gM) (Finset.subset_univ _)) $$ H
  iintro H
  rw [x_readAt (xgF m) hs ho hb]
  iapply Hk; iexact H

theorem load_kw {off : ℕ} {hb} {hl} {α : Type} {Q : α → sProp 𝕄} (kk : Vec F S4096x128 .bf16 → Prog (TpuEff nD τ sig (Elt F) Λ₀ .tc) α) :
    kW m c ⊢ iprop((kW m c -∗ WP c (kk (col (kF m c) off hb)) Q)
      -∗ WP c (.op (.load kM (Rect.unit (s := S4096x1024) ![0, off] S4096x128.size hb).toLoadRect hl) kk) Q) := by
  unfold kW
  iintro H Hk
  iapply (wp_load 𝒱₀ (c : Thread nD τ) none Set.univ (m := kM) (Finset.subset_univ _)) $$ H
  iintro H
  iapply Hk; iexact H

theorem load_vw {off : ℕ} {hb} {hl} {α : Type} {Q : α → sProp 𝕄} (kk : Vec F S4096x128 .bf16 → Prog (TpuEff nD τ sig (Elt F) Λ₀ .tc) α) :
    vW m c ⊢ iprop((vW m c -∗ WP c (kk (col (vF m c) off hb)) Q)
      -∗ WP c (.op (.load vM (Rect.unit (s := S4096x1024) ![0, off] S4096x128.size hb).toLoadRect hl) kk) Q) := by
  unfold vW
  iintro H Hk
  iapply (wp_load 𝒱₀ (c : Thread nD τ) none Set.univ (m := vM) (Finset.subset_univ _)) $$ H
  iintro H
  iapply Hk; iexact H

end Cert.RingIdeal

end
-- ==== Proof.RingIdeal.Heads.lean ====
/- The words of one trip of the loop, and its three parts that compute the heads. -/
module

public import proofs.«01_k».proof.Proof.RingIdeal.Recv

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-! ## The words of a trip -/

theorem dev10_val : k0_dev10 c = (nxt c).val := by revert c; decide +kernel

variable (t : Fin k0_t1_loop.trips)

theorem t_lt : t.val < 8 := lt_of_lt_of_eq t.isLt trips_eq
theorem off9_eq : k0_off9 c t = ![sl c (7 - t.val + 8), 0, 0] := by revert c t; decide +kernel
theorem cond1_iff : k0_cond1 t = 1#1 ↔ 0 < t.val := by revert t; decide +kernel
theorem cond2_iff : k0_cond2 t = 1#1 ↔ t.val < 7 := by revert t; decide +kernel
theorem last_iff : Scalar.cmpi .ne (Scalar.extui (Scalar.cmpi .eq (Scf.iv 0#32 1#32 t.val) 7#32) : BitVec 32) 0#32 = 1#1 ↔ t.val = 7 := by
  revert t; decide +kernel
theorem off11_eq (h : k0_cond1 t = 1#1) : k0_off11 t = ![t.val - 1, 0, 0] := by revert t; decide +kernel
theorem off12_eq : k0_off12 t = ![t.val - 1, 0, 0] := by revert t; decide +kernel
theorem off14_eq (h : k0_cond2 t = 1#1) : k0_off14 t = ![t.val, 0, 0] := by revert t; decide +kernel
theorem dev10_eq (h : k0_cond2 t = 1#1) : (⟨k0_dev10 c, k0_dev10_lt c t h⟩ : Dev nD) = nxt c := Fin.ext (dev10_val c)
theorem sem9_prev (h : k0_cond1 t = 1#1) (s : Fin 7) (hs : s.val + 1 = t.val) :
    ((cc0_scratch9.slice (Rect.unit (s := S7) (k0_off10 t) S1.size (k0_off10_inb t h))).squeeze S_ squeezes_S1_S_).sem = semOf (.rsS s) := by
  revert t s; decide +kernel
theorem sem10_prev (h : k0_cond1 t = 1#1) (s : Fin 7) (hs : s.val + 1 = t.val) :
    ((cc0_scratch10.slice (Rect.unit (s := S7) (k0_off10 t) S1.size (k0_off10_inb t h))).squeeze S_ squeezes_S1_S_).sem = semOf (.rsR s) := by
  revert t s; decide +kernel
theorem sem9_this (h : k0_cond2 t = 1#1) (s : Fin 7) (hs : s.val = t.val) :
    ((cc0_scratch9.slice (Rect.unit (s := S7) (k0_off13 t) S1.size (k0_off13_inb t h))).squeeze S_ squeezes_S1_S_).sem = semOf (.rsS s) := by
  revert t s; decide +kernel
theorem sem10_this (h : k0_cond2 t = 1#1) (s : Fin 7) (hs : s.val = t.val) :
    ((cc0_scratch10.slice (Rect.unit (s := S7) (k0_off13 t) S1.size (k0_off13_inb t h))).squeeze S_ squeezes_S1_S_).sem = semOf (.rsR s) := by
  revert t s; decide +kernel
theorem seqK_rs (s : Fin 7) : seqK (6 - s.val) = .rsR s := by revert s; decide

/-! ## The heads -/

/-- The queries' block of trip `t`. -/
def xT (t : ℕ) : Vec F S1x512x1024 .bf16 := xSl m (sl c (7 - t + 8)) (sl_lt _ _)

def heads : sProp 𝕄 := iprop(xW m c ∗ kW m c ∗ vW m c ∗ stWq m c ∗ stWo m c)

/-- The heads' first part. -/
theorem part1_wp (v2 : BitVec 32) {α : Type} {Q : α → sProp 𝕄} (kk : _ → Prog (TpuEff nD τ sig (Elt F) Λ₀ .tc) α) :
    heads m c ⊢ iprop((heads m c -∗ WP c (kk ⟨Scf.iv 0#32 1#32 t.val, k0_pay5 (xT m c t.val) (wqst m c),
          k0_pay6 (xT m c t.val) (wqst m c) (col (kF m c) 0 inb_S4096x1024_S4096x128_0_0) (col (vF m c) 0 inb_S4096x1024_S4096x128_0_0),
          k0_pay7 (xT m c t.val) (wqst m c), col (kF m c) 128 inb_S4096x1024_S4096x128_0_128, cst0⟩) Q)
        -∗ WP c (k0_part1 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 0#32 1#32 t >>= kk) Q) := by
  rw [k0_part1_eq_skeleton]
  unfold k0_part1_skel heads
  simp only [Prog.lift, Prog.bind_op, Prog.bind_ret, Prog.pure_eq_ret, Prog.bind_assoc]
  iintro ⟨Hx, HK, HV, Hq, Ho⟩ Hk
  iapply (load_xw m c (sl_lt c _) (off9_eq c t) _) $$ Hx
  iintro Hx
  iapply (load_wq m c _) $$ Hq
  iintro Hq
  iapply (load_kw m c _) $$ HK
  iintro HK
  iapply (load_vw m c _) $$ HV
  iintro HV
  iapply (load_kw m c _) $$ HK
  iintro HK
  iapply Hk
  isplitl [Hx]; · iexact Hx
  isplitl [HK]; · iexact HK
  isplitl [HV]; · iexact HV
  isplitl [Hq]; · iexact Hq
  iexact Ho

/-- The second. -/
theorem part2_wp (v547 : FVec F S512x1024 .bf16) (v561 : FVec F S512x128 .bf16) (v562 : Vec F S4096x128 .bf16) (z : FVec F S512x4096 .f32)
    {α : Type} {Q : α → sProp 𝕄} (kk : _ → Prog (TpuEff nD τ sig (Elt F) Λ₀ .tc) α) :
    heads m c ⊢ iprop((heads m c -∗ WP c (kk ⟨k0_pay8 v561 v562 z (col (vF m c) 128 inb_S4096x1024_S4096x128_0_128),
          k0_pay9 v547 (col (kF m c) 256 inb_S4096x1024_S4096x128_0_256) (col (vF m c) 256 inb_S4096x1024_S4096x128_0_256),
          k0_pay10 v547 (col (kF m c) 384 inb_S4096x1024_S4096x128_0_384) (col (vF m c) 384 inb_S4096x1024_S4096x128_0_384),
          k0_pay11 v547, col (kF m c) 512 inb_S4096x1024_S4096x128_0_512, cst0⟩) Q)
        -∗ WP c (k0_part2 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 v547 v561 v562 z >>= kk) Q) := by
  rw [k0_part2_eq_skeleton]
  unfold k0_part2_skel heads
  simp only [Prog.lift, Prog.bind_op, Prog.bind_ret, Prog.pure_eq_ret, Prog.bind_assoc]
  iintro ⟨Hx, HK, HV, Hq, Ho⟩ Hk
  iapply (load_vw m c _) $$ HV
  iintro HV
  iapply (load_kw m c _) $$ HK
  iintro HK
  iapply (load_vw m c _) $$ HV
  iintro HV
  iapply (load_kw m c _) $$ HK
  iintro HK
  iapply (load_vw m c _) $$ HV
  iintro HV
  iapply (load_kw m c _) $$ HK
  iintro HK
  iapply Hk
  isplitl [Hx]; · iexact Hx
  isplitl [HK]; · iexact HK
  isplitl [HV]; · iexact HV
  isplitl [Hq]; · iexact Hq
  iexact Ho

/-- The third. -/
theorem part3_wp (v547 : FVec F S512x1024 .bf16) (v600 : FVec F S512x128 .bf16) (v601 : Vec F S4096x128 .bf16) (z : FVec F S512x4096 .f32)
    {α : Type} {Q : α → sProp 𝕄} (kk : _ → Prog (TpuEff nD τ sig (Elt F) Λ₀ .tc) α) :
    heads m c ⊢ iprop((heads m c -∗ WP c (kk ⟨k0_pay12 v600 v601 z (col (vF m c) 512 inb_S4096x1024_S4096x128_0_512),
          k0_pay13 v547 (col (kF m c) 640 inb_S4096x1024_S4096x128_0_640) (col (vF m c) 640 inb_S4096x1024_S4096x128_0_640),
          k0_pay14 v547 (col (kF m c) 768 inb_S4096x1024_S4096x128_0_768) (col (vF m c) 768 inb_S4096x1024_S4096x128_0_768),
          k0_pay15 v547, col (kF m c) 896 inb_S4096x1024_S4096x128_0_896, cst0⟩) Q)
        -∗ WP c (k0_part3 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 v547 v600 v601 z >>= kk) Q) := by
  rw [k0_part3_eq_skeleton]
  unfold k0_part3_skel heads
  simp only [Prog.lift, Prog.bind_op, Prog.bind_ret, Prog.pure_eq_ret, Prog.bind_assoc]
  iintro ⟨Hx, HK, HV, Hq, Ho⟩ Hk
  iapply (load_vw m c _) $$ HV
  iintro HV
  iapply (load_kw m c _) $$ HK
  iintro HK
  iapply (load_vw m c _) $$ HV
  iintro HV
  iapply (load_kw m c _) $$ HK
  iintro HK
  iapply (load_vw m c _) $$ HV
  iintro HV
  iapply (load_kw m c _) $$ HK
  iintro HK
  iapply Hk
  isplitl [Hx]; · iexact Hx
  isplitl [HK]; · iexact HK
  isplitl [HV]; · iexact HV
  isplitl [Hq]; · iexact Hq
  iexact Ho

end Cert.RingIdeal

end
-- ==== Proof.RingIdeal.Trip.lean ====
/- One trip of the loop, over the invariant that says what each slot of the received sums is doing. -/
module

public import proofs.«01_k».proof.Proof.RingIdeal.Heads

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-! ## The loop's invariant -/

/-- Slot `s` of the received sums before trip `t`: received, or out in write mode with its transfer awaited. -/
def rcvSt (t : ℕ) (s : Fin 7) : sProp 𝕄 :=
  if s.val + 2 ≤ t then iprop(rPt m c s.val ∗ past (F := F) c (.rsR s)) else iprop(rWm m c s.val fullShare.right ∅ ∗ pend (F := F) c (.rsR s))
/-- What the `s`-th send needs, before trip `t`: nothing when it is over, its end when it is under way, all of it otherwise. -/
def sndSt (t : ℕ) (s : Fin 7) : sProp 𝕄 :=
  if s.val + 2 ≤ t then past (F := F) c (.rsS s) else if s.val + 1 = t then pend (F := F) c (.rsS s)
  else iprop(rWm m (nxt c) s.val qA ∅ ∗ atPos ER (cellAt c (some (.rsS s))) 0 ∅ 0 ∗ tok (F := F) c (.rsS s) ∗ tok (F := F) (nxt c) (.rsR s))
def slotSt (t : ℕ) (s : Fin 7) : sProp 𝕄 := iprop(rcvSt m c t s ∗ sndSt m c t s)
/-- The send buffer is away from the first trip's send to the last trip's wait. -/
def bufSt (t : ℕ) : sProp 𝕄 := if t = 0 ∨ t = 8 then sAny (F := F) c else iprop(emp)
def outSt (t : ℕ) : sProp 𝕄 := if t = 8 then oPt m c else oAny (F := F) c
def inv (t : ℕ) : sProp 𝕄 :=
  iprop(heads m c ∗ (bigSep Finset.univ fun s : Fin 7 => slotSt m c t s) ∗ bufSt c t ∗ Ow (F := F) c (7 - t) ∗ outSt m c t)

theorem rcvSt_past {t : ℕ} {s : Fin 7} (h : s.val + 2 ≤ t) : rcvSt m c t s = iprop(rPt m c s.val ∗ past (F := F) c (.rsR s)) := if_pos h
theorem rcvSt_wait {t : ℕ} {s : Fin 7} (h : ¬ s.val + 2 ≤ t) : rcvSt m c t s = iprop(rWm m c s.val fullShare.right ∅ ∗ pend (F := F) c (.rsR s)) := if_neg h
theorem sndSt_past {t : ℕ} {s : Fin 7} (h : s.val + 2 ≤ t) : sndSt m c t s = past (F := F) c (.rsS s) := if_pos h
theorem sndSt_way {t : ℕ} {s : Fin 7} (h : s.val + 1 = t) : sndSt m c t s = pend (F := F) c (.rsS s) := by
  unfold sndSt; rw [if_neg (by omega), if_pos h]
theorem sndSt_all {t : ℕ} {s : Fin 7} (h : t ≤ s.val) : sndSt m c t s
    = iprop(rWm m (nxt c) s.val qA ∅ ∗ atPos ER (cellAt c (some (.rsS s))) 0 ∅ 0 ∗ tok (F := F) c (.rsS s) ∗ tok (F := F) (nxt c) (.rsR s)) := by
  unfold sndSt; rw [if_neg (by omega), if_neg (by omega)]

/-- A trip changes the slot it sends into and the slot it receives. -/
theorem slotSt_same {t : ℕ} {s : Fin 7} (h₁ : s.val ≠ t) (h₂ : s.val + 1 ≠ t) : slotSt m c (t + 1) s = slotSt m c t s := by
  unfold slotSt rcvSt sndSt
  by_cases h : s.val + 2 ≤ t
  · rw [if_pos h, if_pos h, if_pos (by omega), if_pos (by omega)]
  · rw [if_neg h, if_neg h, if_neg (by omega), if_neg (by omega), if_neg (by omega), if_neg h₂]

theorem wait_sent (s : Fin 7) {t : ℕ} (h : s.val + 1 = t)
    {sp sp' : Space} {src : Memref sig .tc sp S512x1024 .bf16} {dst : Memref sig .tc sp' S512x1024 .bf16} {hsrc : src.view.WordExact} {hdst : dst.view.WordExact}
    (hN : dst.view.dmaCredit = N) {sem : DmaSem sig} (hs : sem = semOf (.rsS s))
    {α : Type} {Q : α → sProp 𝕄} (kk : PUnit → Prog (TpuEff nD τ sig (Elt F) Λ₀ .tc) α) :
    iprop(env m K ιw ∗ Ow c (7 - t) ∗ pend c (.rsS s))
      ⊢ iprop(((Ow c (7 - t) ∗ past c (.rsS s) ∗ sAny c) -∗ WP c (kk ⟨⟩) Q) -∗ WP c (.op (.waitDma2 sem src dst hsrc hdst) kk) Q) :=
  wait_step m K ιw c (.rsS s) (by omega) (by show 0 + (7 - t) < 21; omega) hN hs kk

theorem wait_received (s : Fin 7) {t : ℕ} (h : s.val + 1 = t)
    {sp sp' : Space} {src : Memref sig .tc sp S512x1024 .bf16} {dst : Memref sig .tc sp' S512x1024 .bf16} {hsrc : src.view.WordExact} {hdst : dst.view.WordExact}
    (hN : dst.view.dmaCredit = N) {sem : DmaSem sig} (hs : sem = semOf (.rsR s))
    {α : Type} {Q : α → sProp 𝕄} (kk : PUnit → Prog (TpuEff nD τ sig (Elt F) Λ₀ .tc) α) :
    iprop(env m K ιw ∗ Ow c (7 - t) ∗ pend c (.rsR s) ∗ rWm m c s.val fullShare.right ∅)
      ⊢ iprop(((Ow c (7 - t) ∗ past c (.rsR s) ∗ rPt m c s.val) -∗ WP c (kk ⟨⟩) Q) -∗ WP c (.op (.waitDma2 sem src dst hsrc hdst) kk) Q) := by
  iintro ⟨#He, HO, Hp, Hw⟩ Hk
  iapply (wait_step m K ιw c (.rsR s) (n := 7 - t) (by omega) (by show 14 + s.val + (7 - t) < 21; omega) hN hs kk) $$ [HO Hp]
  · isplitl []; · iexact He
    isplitl [HO]; · iexact HO
    iexact Hp
  iintro ⟨HO, Hq, HW⟩
  imod (received m K ιw c s.val) $$ [HW Hw] with Hr
  · isplitl []; · iexact He
    isplitl [HW]; · iapply (Entails.of_eq (show payOf m c (some (.rsR s)) false = rWm m c s.val qA (rI s.val) from rfl)) $$ HW
    iexact Hw
  iapply Hk
  isplitl [HO]; · iexact HO
  isplitl [Hq]; · iexact Hq
  iexact Hr

theorem slots_first {t : ℕ} (s : Fin 7) : (bigSep Finset.univ fun s : Fin 7 => slotSt m c t s)
    = iprop(slotSt m c t s ∗ bigSep (Finset.univ.erase s) fun s : Fin 7 => slotSt m c t s) := bigSep_univ_split s
theorem slots_mid {t : ℕ} (p s : Fin 7) (h : s ≠ p) : (bigSep Finset.univ fun s : Fin 7 => slotSt m c t s)
    = iprop(slotSt m c t p ∗ slotSt m c t s ∗ bigSep ((Finset.univ.erase p).erase s) fun s : Fin 7 => slotSt m c t s) := by
  rw [slots_first m c p, bigSep_erase (Finset.mem_erase.mpr ⟨h, Finset.mem_univ _⟩)]; rfl

theorem rest_same {t : ℕ} {R : Finset (Fin 7)} (h : ∀ s ∈ R, s.val ≠ t ∧ s.val + 1 ≠ t) :
    (bigSep R fun s : Fin 7 => slotSt m c t s) = bigSep R fun s : Fin 7 => slotSt m c (t + 1) s :=
  bigSep_congr fun s hs => (slotSt_same m c (h s hs).1 (h s hs).2).symm

/-- What is sent at the first trip does not depend on what was loaded. -/
theorem pay_first {t : ℕ} (h : t = 0) (v : Vec F S1x512x1024 .bf16) : tripAt m k0_pay3 c t v = sndF m t c := by
  subst h; exact snd_zero m c v
theorem pay_next {t p : ℕ} (h : p + 1 = t) : tripAt m k0_pay3 c t (up (sndF m p (prv c))) = sndF m t c := by
  subst h; rfl
theorem pay_last {t p : ℕ} (h : p + 1 = t) (h7 : t = 7) : tripAt m k0_pay4 c t (up (sndF m p (prv c))) = outF m c := by
  obtain rfl : p = 6 := by omega
  subst h7; rfl

/-- A trip's end: the loaded blocks and the queue of slots, put back. -/
theorem Ow_of {a b : ℕ} (h : a = b) : Ow (F := F) c a ⊢ Ow c b := Entails.of_eq (congrArg _ h)

variable (t : Fin k0_t1_loop.trips)

set_option maxHeartbeats 1600000 in
/-- One trip. -/
theorem trip (v2 : BitVec 32) :
    iprop(env m K ιw ∗ inv m c t.val) ⊢ WP c (k0_t1_body xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 t ()) (fun _ => inv m c (t.val + 1)) := by
  have ht := t_lt t
  unfold k0_t1_body inv
  iintro ⟨#He, Hh, Hs, Hb, HO, Hout⟩
  iapply (part1_wp m c t v2 _) $$ Hh
  iintro Hh
  iapply (part2_wp m c _ _ _ _ _) $$ Hh
  iintro Hh
  iapply (part3_wp m c _ _ _ _ _) $$ Hh
  iintro Hh
  unfold heads
  icases Hh with ⟨Hx, HK, HV, Hq, Ho⟩
  simp only [Prog.lift, Prog.bind_op, Prog.bind_ret, Prog.pure_eq_ret, Prog.bind_assoc]
  iapply (load_vw m c _) $$ HV
  iintro HV
  iapply (load_wo m c _) $$ Ho
  iintro Ho
  by_cases h0 : t.val = 0
  · have h1 : ¬ k0_cond1 t = 1#1 := fun h => absurd ((cond1_iff t).mp h) (by omega)
    have h2 : k0_cond2 t = 1#1 := (cond2_iff t).mpr (by omega)
    have h3 : ¬ Scalar.cmpi .ne (Scalar.extui (Scalar.cmpi .eq (Scf.iv 0#32 1#32 t.val) 7#32) : BitVec 32) 0#32 = 1#1 := fun h => absurd ((last_iff t).mp h) (by omega)
    simp only [dif_neg h1, dif_pos h2, dif_neg h3, Prog.bind_op, Prog.bind_ret]
    obtain ⟨s, hs⟩ : ∃ s : Fin 7, s.val = t.val := ⟨⟨t.val, by omega⟩, rfl⟩
    ihave Hs := (Entails.of_eq (slots_first m c s)) $$ Hs
    icases Hs with ⟨Hst, Hrest⟩
    ihave Hst := (Entails.of_eq (show slotSt m c t.val s = _ from by unfold slotSt; rw [rcvSt_wait m c (by omega), sndSt_all m c (by omega)])) $$ Hst
    icases Hst with ⟨⟨Hw, Hp⟩, Hd, Hat, Htk, Htr⟩
    ihave Hb := (Entails.of_eq (show bufSt (F := F) c t.val = sAny c from if_pos (Or.inl h0))) $$ Hb
    iapply (load_out m K ιw c (s := s.val) (by rw [off12_eq, hs, h0]) _) $$ [Hw]
    · isplitl []; · iexact He
      iexact Hw
    iintro %v Hw
    iapply (load_s c _) $$ Hb
    iintro %vs Hb
    iapply (store_s c (w' := sndF m s.val c) (by rw [hs]; exact pay_first m c h0 v) _) $$ Hb
    iintro Hb
    iapply (send_part m K ιw c s (n := 6 - s.val) (seqK_rs s) (dev10_eq c t h2) (by rw [off14_eq t h2, hs]) _ (sem9_this t h2 s hs) (sem10_this t h2 s hs) _) $$ [Hb Hd HO Hat Htk Htr]
    · isplitl []; · iexact He
      isplitl [Hb]; · iexact Hb
      isplitl [Hd]; · iexact Hd
      isplitl [HO]; · iapply (Ow_of c (by omega)) $$ HO
      isplitl [Hat]; · iexact Hat
      isplitl [Htk]; · iexact Htk
      iexact Htr
    iintro ⟨HO, Hps⟩
    rw [wp_ret]
    imodintro
    isplitl [Hx HK HV Hq Ho]
    · isplitl [Hx]; · iexact Hx
      isplitl [HK]; · iexact HK
      isplitl [HV]; · iexact HV
      isplitl [Hq]; · iexact Hq
      iexact Ho
    isplitl [Hw Hp Hps Hrest]
    · iapply (Entails.of_eq (slots_first m c (t := t.val + 1) s).symm) $$ [Hw Hp Hps Hrest]
      isplitl [Hw Hp Hps]
      · iapply (Entails.of_eq (show slotSt m c (t.val + 1) s = _ from by unfold slotSt; rw [rcvSt_wait m c (by omega), sndSt_way m c (by omega)]).symm) $$ [Hw Hp Hps]
        isplitl [Hw Hp]
        · isplitl [Hw]; · iexact Hw
          iexact Hp
        iexact Hps
      iapply (Entails.of_eq (rest_same m c fun a ha => ⟨fun h => Finset.ne_of_mem_erase ha (Fin.ext (by omega)), by omega⟩)) $$ Hrest
    isplitl []
    · iapply (Entails.of_eq (show bufSt (F := F) c (t.val + 1) = iprop(emp) from if_neg (by omega)).symm)
      iempintro
    isplitl [HO]; · iapply (Ow_of c (by omega)) $$ HO
    iapply (Entails.of_eq (show outSt m c t.val = outSt m c (t.val + 1) from (if_neg (by omega)).trans (if_neg (by omega)).symm)) $$ Hout
  by_cases h7 : t.val = 7
  · have h1 : k0_cond1 t = 1#1 := (cond1_iff t).mpr (by omega)
    have h2 : ¬ k0_cond2 t = 1#1 := fun h => absurd ((cond2_iff t).mp h) (by omega)
    have h3 : Scalar.cmpi .ne (Scalar.extui (Scalar.cmpi .eq (Scf.iv 0#32 1#32 t.val) 7#32) : BitVec 32) 0#32 = 1#1 := (last_iff t).mpr h7
    simp only [dif_pos h1, dif_neg h2, dif_pos h3, Prog.bind_op, Prog.bind_ret]
    obtain ⟨p, hp⟩ : ∃ p : Fin 7, p.val + 1 = t.val := ⟨⟨t.val - 1, by omega⟩, by show t.val - 1 + 1 = _; omega⟩
    ihave Hs := (Entails.of_eq (slots_first m c p)) $$ Hs
    icases Hs with ⟨Hst, Hrest⟩
    ihave Hst := (Entails.of_eq (show slotSt m c t.val p = _ from by unfold slotSt; rw [rcvSt_wait m c (by omega), sndSt_way m c hp])) $$ Hst
    icases Hst with ⟨⟨Hw, Hpr⟩, Hps⟩
    ihave Hout := (Entails.of_eq (show outSt m c t.val = oAny c from if_neg (by omega))) $$ Hout
    iapply (wait_sent m K ιw c p hp rfl (sem9_prev t h1 p hp) _) $$ [HO Hps]
    · isplitl []; · iexact He
      isplitl [HO]; · iexact HO
      iexact Hps
    iintro ⟨HO, Hps, Hb⟩
    iapply (wait_received m K ιw c p hp (rSlot_credit _ _) (sem10_prev t h1 p hp) _) $$ [HO Hw Hpr]
    · isplitl []; · iexact He
      isplitl [HO]; · iexact HO
      isplitl [Hpr]; · iexact Hpr
      iexact Hw
    iintro ⟨HO, Hpr, Hw⟩
    iapply (load_in m c p.isLt (by rw [off12_eq, ← hp]; rfl) _) $$ Hw
    iintro Hw
    iapply (load_o c _) $$ Hout
    iintro %vo Hout
    iapply (store_o m c (pay_last m c hp h7) _) $$ Hout
    iintro Hout
    simp only [wp_ret]
    imodintro
    isplitl [Hx HK HV Hq Ho]
    · isplitl [Hx]; · iexact Hx
      isplitl [HK]; · iexact HK
      isplitl [HV]; · iexact HV
      isplitl [Hq]; · iexact Hq
      iexact Ho
    isplitl [Hw Hpr Hps Hrest]
    · iapply (Entails.of_eq (slots_first m c (t := t.val + 1) p).symm) $$ [Hw Hpr Hps Hrest]
      isplitl [Hw Hpr Hps]
      · iapply (Entails.of_eq (show slotSt m c (t.val + 1) p = _ from by unfold slotSt; rw [rcvSt_past m c (by omega), sndSt_past m c (by omega)]).symm) $$ [Hw Hpr Hps]
        isplitl [Hw Hpr]
        · isplitl [Hw]; · iexact Hw
          iexact Hpr
        iexact Hps
      iapply (Entails.of_eq (rest_same m c fun a ha => ⟨by omega, fun h => Finset.ne_of_mem_erase ha (Fin.ext (by omega))⟩)) $$ Hrest
    isplitl [Hb]
    · iapply (Entails.of_eq (show bufSt (F := F) c (t.val + 1) = sAny c from if_pos (by omega)).symm) $$ Hb
    isplitl [HO]; · iapply (Ow_of c (by omega)) $$ HO
    iapply (Entails.of_eq (show outSt m c (t.val + 1) = oPt m c from if_pos (by omega)).symm) $$ Hout
  · have h1 : k0_cond1 t = 1#1 := (cond1_iff t).mpr (by omega)
    have h2 : k0_cond2 t = 1#1 := (cond2_iff t).mpr (by omega)
    have h3 : ¬ Scalar.cmpi .ne (Scalar.extui (Scalar.cmpi .eq (Scf.iv 0#32 1#32 t.val) 7#32) : BitVec 32) 0#32 = 1#1 := fun h => absurd ((last_iff t).mp h) (by omega)
    simp only [dif_pos h1, dif_pos h2, dif_neg h3, Prog.bind_op, Prog.bind_ret]
    obtain ⟨p, hp⟩ : ∃ p : Fin 7, p.val + 1 = t.val := ⟨⟨t.val - 1, by omega⟩, by show t.val - 1 + 1 = _; omega⟩
    obtain ⟨s, hs⟩ : ∃ s : Fin 7, s.val = t.val := ⟨⟨t.val, by omega⟩, rfl⟩
    have hsp : s ≠ p := fun h => by rw [h] at hs; omega
    ihave Hs := (Entails.of_eq (slots_mid m c p s hsp)) $$ Hs
    icases Hs with ⟨Hst, Hss, Hrest⟩
    ihave Hst := (Entails.of_eq (show slotSt m c t.val p = _ from by unfold slotSt; rw [rcvSt_wait m c (by omega), sndSt_way m c hp])) $$ Hst
    icases Hst with ⟨⟨Hw, Hpr⟩, Hps⟩
    ihave Hss := (Entails.of_eq (show slotSt m c t.val s = _ from by unfold slotSt; rw [rcvSt_wait m c (by omega), sndSt_all m c (by omega)])) $$ Hss
    icases Hss with ⟨⟨Hw2, Hp2⟩, Hd, Hat, Htk, Htr⟩
    iapply (wait_sent m K ιw c p hp rfl (sem9_prev t h1 p hp) _) $$ [HO Hps]
    · isplitl []; · iexact He
      isplitl [HO]; · iexact HO
      iexact Hps
    iintro ⟨HO, Hps, Hb⟩
    iapply (wait_received m K ιw c p hp (rSlot_credit _ _) (sem10_prev t h1 p hp) _) $$ [HO Hw Hpr]
    · isplitl []; · iexact He
      isplitl [HO]; · iexact HO
      isplitl [Hpr]; · iexact Hpr
      iexact Hw
    iintro ⟨HO, Hpr, Hw⟩
    iapply (load_in m c p.isLt (by rw [off12_eq, ← hp]; rfl) _) $$ Hw
    iintro Hw
    iapply (load_s c _) $$ Hb
    iintro %vs Hb
    iapply (store_s c (w' := sndF m s.val c) (by rw [hs]; exact pay_next m c hp) _) $$ Hb
    iintro Hb
    iapply (send_part m K ιw c s (n := 6 - s.val) (seqK_rs s) (dev10_eq c t h2) (by rw [off14_eq t h2, hs]) _ (sem9_this t h2 s hs) (sem10_this t h2 s hs) _) $$ [Hb Hd HO Hat Htk Htr]
    · isplitl []; · iexact He
      isplitl [Hb]; · iexact Hb
      isplitl [Hd]; · iexact Hd
      isplitl [HO]; · iapply (Ow_of c (by omega)) $$ HO
      isplitl [Hat]; · iexact Hat
      isplitl [Htk]; · iexact Htk
      iexact Htr
    iintro ⟨HO, Hp3⟩
    rw [wp_ret]
    imodintro
    isplitl [Hx HK HV Hq Ho]
    · isplitl [Hx]; · iexact Hx
      isplitl [HK]; · iexact HK
      isplitl [HV]; · iexact HV
      isplitl [Hq]; · iexact Hq
      iexact Ho
    isplitl [Hw Hpr Hps Hw2 Hp2 Hp3 Hrest]
    · iapply (Entails.of_eq (slots_mid m c (t := t.val + 1) p s hsp).symm) $$ [Hw Hpr Hps Hw2 Hp2 Hp3 Hrest]
      isplitl [Hw Hpr Hps]
      · iapply (Entails.of_eq (show slotSt m c (t.val + 1) p = _ from by unfold slotSt; rw [rcvSt_past m c (by omega), sndSt_past m c (by omega)]).symm) $$ [Hw Hpr Hps]
        isplitl [Hw Hpr]
        · isplitl [Hw]; · iexact Hw
          iexact Hpr
        iexact Hps
      isplitl [Hw2 Hp2 Hp3]
      · iapply (Entails.of_eq (show slotSt m c (t.val + 1) s = _ from by unfold slotSt; rw [rcvSt_wait m c (by omega), sndSt_way m c (by omega)]).symm) $$ [Hw2 Hp2 Hp3]
        isplitl [Hw2 Hp2]
        · isplitl [Hw2]; · iexact Hw2
          iexact Hp2
        iexact Hp3
      iapply (Entails.of_eq (rest_same m c fun a ha => ⟨fun h => Finset.ne_of_mem_erase ha (Fin.ext (by omega)),
        fun h => Finset.ne_of_mem_erase (Finset.mem_of_mem_erase ha) (Fin.ext (by omega))⟩)) $$ Hrest
    isplitl []
    · iapply (Entails.of_eq (show bufSt (F := F) c (t.val + 1) = iprop(emp) from if_neg (by omega)).symm)
      iempintro
    isplitl [HO]; · iapply (Ow_of c (by omega)) $$ HO
    iapply (Entails.of_eq (show outSt m c t.val = outSt m c (t.val + 1) from (if_neg (by omega)).trans (if_neg (by omega)).symm)) $$ Hout

end Cert.RingIdeal

end
-- ==== Proof.RingIdeal.Buffers.lean ====
/- What a device holds of its buffers before and after: the splits into slots, and the joins; the cells closing. -/
module

public import proofs.«01_k».proof.Proof.RingIdeal.Trip
public import Idealize.ShloMosaic.Lib.Ring

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-! ## The gathered activations, slot by slot -/

theorem sl_surj (s : Fin 8) : ∀ c : Dev nD, ∃ k : Fin 8, sl c k.val = s.val := by revert s; decide
theorem sl_inj (k k' : Fin 8) : ∀ c : Dev nD, sl c k.val = sl c k'.val → k = k' := by revert k k'; decide

theorem slots_disjoint (b b' : Fin 8) (h : b ≠ b') : Disjoint (xI (sl c b.val)) (xI (sl c b'.val)) := by
  rw [Finset.disjoint_left]
  intro i hi hi'
  exact h (sl_inj b b' c ((mem_xI.mp hi).symm.trans (mem_xI.mp hi')))

theorem slots_cover : Finset.univ.biUnion (fun b : Fin 8 => xI (sl c b.val)) = Finset.univ := by
  ext i
  simp only [Finset.mem_biUnion, Finset.mem_univ, true_and, iff_true]
  obtain ⟨k, hk⟩ := sl_surj (i 0) c
  exact ⟨k, mem_xI.mpr hk.symm⟩

theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_3 (Φ : Fin 3 → sProp 𝕄) : bigSep Finset.univ Φ = iprop(Φ 0 ∗ Φ 1 ∗ Φ 2) :=
  bigSep_univ_eq_bigSepL [0, 1, 2] (by decide) (by decide) Φ

theorem barL_nxt : barL (F := F) (nxt c) c = iprop(xAny c (sl c 1) ∗ xAny c (sl c 2) ∗ xAny c (sl c 3)) := by
  unfold barL
  rw [bigSep_3]
  show iprop(xAny (F := F) c (sl (nxt c) 0) ∗ xAny c (sl (nxt c) 1) ∗ xAny c (sl (nxt c) 2)) = _
  rw [sl_nxt, sl_nxt, sl_nxt]

theorem barR_prv : (bigSep Finset.univ fun h : Fin 4 => xAny (F := F) c (sl (prv c) (8 - h.val)))
    = iprop(xAny c (sl c 7) ∗ xAny c (sl c 6) ∗ xAny c (sl c 5) ∗ xAny c (sl c 4)) := by
  rw [bigSep_4]
  show iprop(xAny (F := F) c (sl (prv c) (7 + 1)) ∗ xAny c (sl (prv c) (6 + 1)) ∗ xAny c (sl (prv c) (5 + 1)) ∗ xAny c (sl (prv c) (4 + 1))) = _
  rw [sl_prv, sl_prv, sl_prv, sl_prv]

/-- A fresh buffer of gathered activations: the device's own slot, the three its right neighbour fills, the four its left
    neighbour fills. -/
theorem x_deal (f : Buf (Elt F) (xL c)) : (xL c ↦{fullShare} f) ⊢ iprop(xAny (F := F) c (sl c 0) ∗ barL (nxt c) c
    ∗ bigSep Finset.univ fun h : Fin 4 => xAny (F := F) c (sl (prv c) (8 - h.val))) := by
  rw [Ring.pointsTo_blocks (fun b : Fin 8 => xI (sl c b.val)) (slots_disjoint c) (slots_cover c) f, barL_nxt, barR_prv]
  refine (bigSep_mono fun b _ => show _ ⊢ xAny (F := F) c (sl c b.val) from ?_).trans ?_
  · unfold xAny; iintro H; iexists f; iexact H
  rw [bigSep_8]
  show iprop(xAny (F := F) c (sl c 0) ∗ xAny c (sl c 1) ∗ xAny c (sl c 2) ∗ xAny c (sl c 3) ∗ xAny c (sl c 4) ∗ xAny c (sl c 5) ∗ xAny c (sl c 6) ∗ xAny c (sl c 7)) ⊢ _
  iintro ⟨H0, H1, H2, H3, H4, H5, H6, H7⟩
  isplitl [H0]; · iexact H0
  isplitl [H1 H2 H3]
  · isplitl [H1]; · iexact H1
    isplitl [H2]; · iexact H2
    iexact H3
  isplitl [H7]; · iexact H7
  isplitl [H6]; · iexact H6
  isplitl [H5]; · iexact H5
  iexact H4

/-- The three shares of a filled slot, together again. -/
theorem join3 (s : ℕ) : iprop(xPt m c s qA ∗ xPt m c s qB ∗ xPt m c s qC) ⊢ xPt m c s fullShare := by
  unfold xPt
  exact (sep_mono_right (pointsTo_share (PosShare.mem_left_op_right fullShare.right)).2).trans
    (pointsTo_share (PosShare.mem_left_op_right fullShare)).2

/-- All slots filled: the buffer. -/
theorem x_whole : iprop(xPt m c (sl c 0) fullShare ∗ xPt m c (sl c 1) fullShare ∗ xPt m c (sl c 2) fullShare ∗ xPt m c (sl c 3) fullShare
    ∗ xPt m c (sl c 4) fullShare ∗ xPt m c (sl c 5) fullShare ∗ xPt m c (sl c 6) fullShare ∗ xPt m c (sl c 7) fullShare) ⊢ xW m c := by
  have h : (xL c ↦{fullShare} xgF m : sProp 𝕄) = bigSep Finset.univ fun b : Fin 8 => xPt m c (sl c b.val) fullShare :=
    Ring.pointsTo_blocks (ℓ := xL c) (fun b : Fin 8 => xI (sl c b.val)) (slots_disjoint c) (slots_cover c) (xgF m)
  unfold xW
  rw [h, bigSep_8]
  exact Entails.of_eq rfl

/-! ## The received sums, slot by slot -/

theorem r_disjoint (b b' : Fin 7) (h : b ≠ b') : Disjoint (rI b.val) (rI b'.val) := by
  rw [Finset.disjoint_left]
  intro i hi hi'
  exact h (Fin.ext ((mem_rI.mp hi).symm.trans (mem_rI.mp hi')))

theorem r_cover : Finset.univ.biUnion (fun b : Fin 7 => rI b.val) = Finset.univ := by
  ext i
  simp only [Finset.mem_biUnion, Finset.mem_univ, true_and, iff_true]
  exact ⟨i 0, mem_rI.mpr rfl⟩

theorem r_whole : (bigSep Finset.univ fun s : Fin 7 => rPt m c s.val) ⊢ (rL c ↦{fullShare} rcvF m c) := by
  have h : (rL c ↦{fullShare} rcvF m c : sProp 𝕄) = bigSep Finset.univ fun b : Fin 7 => rPt m c b.val :=
    Ring.pointsTo_blocks (ℓ := rL c) (fun b : Fin 7 => rI b.val) r_disjoint r_cover (rcvF m c)
  rw [h]

/-- A slot in write mode, in two shares. -/
theorem rWm_halves (s : ℕ) : rWm m c s fullShare ∅ ⊢ iprop(rWm m c s qA ∅ ∗ rWm m c s fullShare.right ∅) := by
  unfold rWm
  iintro ⟨%f, H⟩
  ihave H := (Entails.of_eq (congrArg (fun W => willBeTo (Ix := Unit) (Name := ℕ) (Lvl := ℕ) (wmE (F := F)) (rL c) (rI s) fullShare f (fun i => some (rcvF m c i)) W)
    (Finset.empty_union (∅ : Finset S7x512x1024.Idx)).symm)) $$ H
  icases H with ⟨H₁, H₂⟩
  isplitl [H₁]
  · iexists f; iexact H₁
  · iexists f; iexact H₂

/-- A fresh buffer of received sums enters write mode: half of each slot goes to the left neighbour. -/
theorem r_deal (f : Buf (Elt F) (rL c)) : iprop(wmInv (wmE (F := F)) ιw ∗ (rL c ↦{fullShare} f))
    ⊢ |={Set.univ}=> iprop((bigSep Finset.univ fun t : Fin 7 => rWm m c t.val qA ∅) ∗ bigSep Finset.univ fun t : Fin 7 => rWm m c t.val fullShare.right ∅) := by
  rw [Ring.pointsTo_blocks (fun b : Fin 7 => rI b.val) r_disjoint r_cover f, ← bigSep_sep']
  refine (bigSep_with_persistent (R := wmInv (wmE (F := F)) ιw) (Ψ := fun t : Fin 7 => iprop(|={Set.univ}=> (rWm m c t.val qA ∅ ∗ rWm m c t.val fullShare.right ∅))) fun t _ => ?_).trans (bigSep_fupd _ _)
  iintro H
  imod (pointsTo_castIn (emb := wmE (F := F)) (ιwm := ιw) (ℓ := rL c) (I := rI t.val) (f := f) (fun i => some (rcvF m c i))) $$ H with H
  imodintro
  iapply (rWm_halves m c t.val)
  unfold rWm
  iexists f
  iexact H

/-! ## A transfer cell closes -/

/-- A cell of the transfers whose round is over gives its counter back, at zero. -/
theorem close_x (k : CK) : iprop(env m K ιw ∗ past (F := F) c k) ⊢ |={Set.univ}=> semVal (cellAt c (some k)) 0 := by
  unfold past
  iintro ⟨#He, Hat⟩
  ihave #Hinv := (env_inv m K ιw c (some k)) $$ He
  iapply (Rounds.cell_close ER (Rd m) (Set.mem_univ (K (c, some k))) (fun h => h) (R := 0 + 1) (duties_later m (cellAt c (some k))))
  isplitl []; · iexact Hinv
  iexact Hat

theorem close_bar : iprop(env m K ιw ∗ atPos ER (cellAt c none) 1 ∅ 0) ⊢ |={Set.univ}=> semVal (cellAt c none) 0 := by
  iintro ⟨#He, Hat⟩
  ihave #Hinv := (env_inv m K ιw c none) $$ He
  iapply (Rounds.cell_close ER (Rd m) (Set.mem_univ (K (c, none))) (fun h => h) (R := 0 + 1) (duties_later m (cellAt c none)))
  isplitl []; · iexact Hinv
  iexact Hat

/-! ## The transfer cells by kind -/

/-- The transfer cells, by kind. -/
def kinds : (Fin 4 ⊕ Fin 4) ⊕ (Fin 3 ⊕ Fin 3) ⊕ (Fin 7 ⊕ Fin 7) ≃ CK where
  toFun
    | .inl (.inl h) => .arS h
    | .inl (.inr h) => .arR h
    | .inr (.inl (.inl h)) => .alS h
    | .inr (.inl (.inr h)) => .alR h
    | .inr (.inr (.inl t)) => .rsS t
    | .inr (.inr (.inr t)) => .rsR t
  invFun
    | .arS h => .inl (.inl h)
    | .arR h => .inl (.inr h)
    | .alS h => .inr (.inl (.inl h))
    | .alR h => .inr (.inl (.inr h))
    | .rsS t => .inr (.inr (.inl t))
    | .rsR t => .inr (.inr (.inr t))
  left_inv x := by rcases x with (h | h) | (h | h) | (h | h) <;> rfl
  right_inv k := by cases k <;> rfl

theorem bigSep_CK (Φ : CK → sProp 𝕄) : bigSep Finset.univ Φ = iprop(((Φ (.arS 0) ∗ Φ (.arS 1) ∗ Φ (.arS 2) ∗ Φ (.arS 3)) ∗ (Φ (.arR 0) ∗ Φ (.arR 1) ∗ Φ (.arR 2) ∗ Φ (.arR 3)))
    ∗ ((Φ (.alS 0) ∗ Φ (.alS 1) ∗ Φ (.alS 2)) ∗ (Φ (.alR 0) ∗ Φ (.alR 1) ∗ Φ (.alR 2)))
    ∗ ((bigSep Finset.univ fun t : Fin 7 => Φ (.rsS t)) ∗ bigSep Finset.univ fun t : Fin 7 => Φ (.rsR t))) := by
  rw [bigSep_univ_equiv kinds Φ, bigSep_univ_sum, bigSep_univ_sum, bigSep_univ_sum, bigSep_univ_sum, bigSep_univ_sum, bigSep_4, bigSep_4, bigSep_3, bigSep_3]
  rfl

end Cert.RingIdeal

end
-- ==== Proof.RingIdeal.Parts.lean ====
/- The gather, one printed part of the body after another: what each needs and what it leaves. -/
module

public import proofs.«01_k».proof.Proof.RingIdeal.Ops

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

theorem slot_eight (q : PosShare TreeShare) : xPt m c (sl c 0) q = xPt m c (sl c 8) q :=
  congrArg (fun s => xPt m c s q) ((sl_zero c).trans (sl_eight c).symm)

/-- A wait whose payload is used under another spelling. -/
theorem wait_for (k : CK) {n : ℕ} (hn : n ≤ 14) (hk : lvK (some (some k)) + n < 21)
    {sp sp' : Space} {src : Memref sig .tc sp S512x1024 .bf16} {dst : Memref sig .tc sp' S512x1024 .bf16} {hsrc : src.view.WordExact} {hdst : dst.view.WordExact}
    (hN : dst.view.dmaCredit = N) {sem : DmaSem sig} (hs : sem = semOf k) {P : sProp 𝕄} (hP : payOf m c (some k) false ⊢ P)
    {α : Type} {Q : α → sProp 𝕄} (kk : PUnit → Prog (TpuEff nD τ sig (Elt F) Λ₀ .tc) α) :
    iprop(env m K ιw ∗ Ow c n ∗ pend c k)
      ⊢ iprop(((Ow c n ∗ past c k ∗ P) -∗ WP c (kk ⟨⟩) Q) -∗ WP c (.op (.waitDma2 sem src dst hsrc hdst) kk) Q) := by
  refine BIBase.Entails.trans (wait_step m K ιw c k hn hk hN hs kk) (wand_mono (wand_mono ?_ BIBase.Entails.rfl) BIBase.Entails.rfl)
  exact sep_mono_right (sep_mono_right hP)

/-- The `h`-th transfer to the right. -/
theorem send_right (h : Fin 4) {n : ℕ} (hn : seqK n = .arR h) {d : Dev nD} (hd : d = nxt c)
    {off : Fin 3 → ℕ} (ho : off = ![sl c (8 - h.val), 0, 0]) (hb : ∀ a, off a + S1x512x1024.size a ≤ S8x512x1024.size a)
    {sS sR : DmaSem sig} (hS : sS = semOf (.arS h)) (hR : sR = semOf (.arR h))
    {hsc hsrc hdst hsem} {α : Type} {Q : α → sProp 𝕄} (kk : PUnit → Prog (TpuEff nD τ sig (Elt F) Λ₀ .tc) α) :
    iprop(env m K ιw ∗ xPt m c (sl c (8 - h.val)) qA ∗ xAny (F := F) (nxt c) (sl c (8 - h.val)) ∗ Ow c (n + 1) ∗ atPos ER (cellAt c (some (.arS h))) 0 ∅ 0
        ∗ tok c (.arS h) ∗ tok (nxt c) (.arR h))
      ⊢ iprop(((Ow c n ∗ pend c (.arS h)) -∗ WP c (kk ⟨⟩) Q)
          -∗ WP c (.op (.enqueueDma (gSlot off hb) (.remote (Dev.tc d : Thread nD τ) (gSlot off hb) (.dma sS) hsc) (.dma sR) hsrc hdst hsem) kk) Q) :=
  send_slot m K ιw c (.arS h) (.arR h) hn hd ho hb BIBase.Entails.rfl
    (Entails.of_eq (by
      show xPt m (nxt c) _ _ = xPt m (nxt c) (sl (nxt c) (7 - h.val)) fullShare
      rw [sl_nxt, show 7 - h.val + 1 = 8 - h.val by omega])) hS hR kk

/-- The `h`-th transfer to the left. -/
theorem send_left (h : Fin 3) {n : ℕ} (hn : seqK n = .alR h) {d : Dev nD} (hd : d = prv c)
    {off : Fin 3 → ℕ} (ho : off = ![sl c h.val, 0, 0]) (hb : ∀ a, off a + S1x512x1024.size a ≤ S8x512x1024.size a)
    {sS sR : DmaSem sig} (hS : sS = semOf (.alS h)) (hR : sR = semOf (.alR h))
    {hsc hsrc hdst hsem} {α : Type} {Q : α → sProp 𝕄} (kk : PUnit → Prog (TpuEff nD τ sig (Elt F) Λ₀ .tc) α) :
    iprop(env m K ιw ∗ xPt m c (sl c h.val) qB ∗ xAny (F := F) (prv c) (sl c h.val) ∗ Ow c (n + 1) ∗ atPos ER (cellAt c (some (.alS h))) 0 ∅ 0
        ∗ tok c (.alS h) ∗ tok (prv c) (.alR h))
      ⊢ iprop(((Ow c n ∗ pend c (.alS h)) -∗ WP c (kk ⟨⟩) Q)
          -∗ WP c (.op (.enqueueDma (gSlot off hb) (.remote (Dev.tc d : Thread nD τ) (gSlot off hb) (.dma sS) hsc) (.dma sR) hsrc hdst hsem) kk) Q) :=
  send_slot m K ιw c (.alS h) (.alR h) hn hd ho hb BIBase.Entails.rfl
    (Entails.of_eq (by
      show xPt m (prv c) _ _ = xPt m (prv c) (sl (prv c) (1 + h.val)) fullShare
      rw [Nat.add_comm 1, sl_prv])) hS hR kk

/-- The handshake at the start. -/
theorem part4_wp {α : Type} {Q : α → sProp 𝕄} (kk : _ → Prog (TpuEff nD τ sig (Elt F) Λ₀ .tc) α) :
    iprop(env m K ιw ∗ barPre m c)
      ⊢ iprop((∀ v2 : BitVec 32, ∀ v13 : BitVec 32, ∀ v24 : BitVec 32, barPost m c -∗ WP c (kk ⟨c, v2, v13, v24⟩) Q)
        -∗ WP c (k0_part4 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 >>= kk) Q) := by
  rw [k0_part4_eq_skeleton]
  unfold k0_part4_skel barPre
  simp only [semSignalWord, semWaitWord, Prog.lift, Prog.bind_op, Prog.bind_ret, Prog.pure_eq_ret, Prog.bind_assoc, wp_deviceId]
  iintro ⟨#He, HO, Ht1, Ht2, Hc, Ha, HR, HL⟩ Hk
  iapply (signal_step m K ιw c true (prv c) _ (dev1_eq c) (O₁ c) _) $$ [HO Ht1 HR]
  · isplitl []; · iexact He
    isplitl [HO]; · iexact HO
    isplitl [Ht1]; · iexact Ht1
    iapply (Entails.of_eq (show barR m (prv c) c = payOf m (prv c) none true from by show _ = barR m (prv c) (nxt (prv c)); rw [nxt_prv])) $$ HR
  iintro HO
  iapply (signal_step m K ιw c false (nxt c) _ (dev2_eq c) (ow c 14) _) $$ [HO Ht2 HL]
  · isplitl []; · iexact He
    isplitl [HO]; · iexact HO
    isplitl [Ht2]; · iexact Ht2
    iapply (Entails.of_eq (show barL (F := F) (nxt c) c = payOf m (nxt c) none false from by show _ = barL (nxt c) (prv (nxt c)); rw [prv_nxt])) $$ HL
  iintro HO
  iapply (barwait_step m K ιw c _) $$ [HO Hc Ha]
  · isplitl []; · iexact He
    isplitl [HO]; · unfold Ow; iexact HO
    isplitl [Hc]; · iexact Hc
    iexact Ha
  iintro H
  iapply Hk; iexact H

/-- Part 5 of the body. -/
theorem part5_wp (v2 : BitVec 32) (v24 : BitVec 32) {α : Type} {Q : α → sProp 𝕄} (kk : _ → Prog (TpuEff nD τ sig (Elt F) Λ₀ .tc) α) :
    iprop(env m K ιw ∗ stX m c ∗ xAny (F := F) c (sl c 0) ∗ xAny (F := F) (nxt c) (sl c 8) ∗ Ow (F := F) c 14 ∗ atPos ER (cellAt c (some (.arS 0))) 0 ∅ 0 ∗ tok (F := F) c (.arS 0) ∗ tok (F := F) (nxt c) (.arR 0))
      ⊢ iprop((∀ v59 : BitVec 32, ∀ v60 : BitVec 32, ∀ v61 : BitVec 1, ∀ v62 : BitVec 1, ∀ w : BitVec 32, (stX m c ∗ xPt m c (sl c 0) qB ∗ xPt m c (sl c 0) qC ∗ Ow (F := F) c 13 ∗ pend (F := F) c (.arS 0)) -∗ WP c (kk ⟨v59, v60, v61, v62, w⟩) Q)
        -∗ WP c (k0_part5 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v24 >>= kk) Q) := by
  rw [k0_part5_eq_skeleton]
  unfold k0_part5_skel
  simp only [Prog.lift, Prog.bind_op, Prog.bind_ret, Prog.pure_eq_ret, Prog.bind_assoc]
  iintro ⟨#He, HX, own, dR0, HO, at_arS0, tk_arS0, tr_arR0⟩ Hk
  iapply (load_x m c _) $$ HX
  iintro HX
  iapply (load_any (F := F) c (off1_eq c) _) $$ own
  iintro %vo own
  iapply (store_own m c (off1_eq c) _) $$ own
  iintro x0F
  ihave Hs := (split3 m c (sl c 0)) $$ x0F
  icases Hs with ⟨x0A, x0B, x0C⟩
  ihave x0A := (Entails.of_eq (slot_eight m c qA)) $$ x0A
  iapply (send_right m K ιw c 0 (n := 13) rfl (dev3_eq c) (off2_0 c) _ rfl rfl _) $$ [x0A dR0 HO at_arS0 tk_arS0 tr_arR0]
  · isplitl []; · iexact He
    isplitl [x0A]; · iexact x0A
    isplitl [dR0]; · iexact dR0
    isplitl [HO]; · iexact HO
    isplitl [at_arS0]; · iexact at_arS0
    isplitl [tk_arS0]; · iexact tk_arS0
    iexact tr_arR0
  iintro ⟨HO, pd_arS0⟩
  iapply Hk
  isplitl [HX]; · iexact HX
  isplitl [x0B]; · iexact x0B
  isplitl [x0C]; · iexact x0C
  isplitl [HO]; · iexact HO
  iexact pd_arS0

/-- Part 6 of the body. -/
theorem part6_wp (S : Finset ℕ) (T : Finset ℕ) (v2 : BitVec 32) (v13 : BitVec 32) (v59 : BitVec 32) (v60 : BitVec 32) (v61 : BitVec 1) (v62 : BitVec 1) (w : BitVec 32) {α : Type} {Q : α → sProp 𝕄} (kk : _ → Prog (TpuEff nD τ sig (Elt F) Λ₀ .tc) α) :
    iprop(env m K ιw ∗ xPt m c (sl c 0) qB ∗ xAny (F := F) (prv c) (sl c 0) ∗ Ow (F := F) c 13 ∗ atPos ER (cellAt c (some (.alS 0))) 0 ∅ 0 ∗ tok (F := F) c (.alS 0) ∗ tok (F := F) (prv c) (.alR 0) ∗ xPt m c (sl c 0) qC ∗ stWk m c ∗ kAt m c S ∗ stWv m c ∗ vAt m c T)
      ⊢ iprop(((Ow (F := F) c 12 ∗ pend (F := F) c (.alS 0) ∗ xPt m c (sl c 0) qC ∗ stWk m c ∗ kAt m c (insert (sl c 0) S) ∗ stWv m c ∗ vAt m c (insert (sl c 0) T)) -∗ WP c (kk ⟨⟩) Q)
        -∗ WP c (k0_part6 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v13 v59 v60 v61 v62 w >>= kk) Q) := by
  rw [k0_part6_eq_skeleton]
  unfold k0_part6_skel
  simp only [Prog.lift, Prog.bind_op, Prog.bind_ret, Prog.pure_eq_ret, Prog.bind_assoc]
  iintro ⟨#He, x0B, dL0, HO, at_alS0, tk_alS0, tr_alR0, x0C, HWk, HK, HWv, HV⟩ Hk
  iapply (send_left m K ιw c 0 (n := 12) rfl (dev4_eq c) (off3_0 c) _ rfl rfl _) $$ [x0B dL0 HO at_alS0 tk_alS0 tr_alR0]
  · isplitl []; · iexact He
    isplitl [x0B]; · iexact x0B
    isplitl [dL0]; · iexact dL0
    isplitl [HO]; · iexact HO
    isplitl [at_alS0]; · iexact at_alS0
    isplitl [tk_alS0]; · iexact tk_alS0
    iexact tr_alR0
  iintro ⟨HO, pd_alS0⟩
  iapply (load_slot m c (sl_lt c 0) (off1_eq c) _) $$ x0C
  iintro x0C
  iapply (load_wk m c _) $$ HWk
  iintro HWk
  iapply (load_kany m c _ _) $$ HK
  iintro %vk HK
  iapply (store_k m c _ (sl_lt c 0) (off4_eq c) rfl _) $$ HK
  iintro HK
  iapply (load_wv m c _) $$ HWv
  iintro HWv
  iapply (load_vany m c _ _) $$ HV
  iintro %vv HV
  iapply (store_v m c _ (sl_lt c 0) (off4_eq c) rfl _) $$ HV
  iintro HV
  iapply Hk
  isplitl [HO]; · iexact HO
  isplitl [pd_alS0]; · iexact pd_alS0
  isplitl [x0C]; · iexact x0C
  isplitl [HWk]; · iexact HWk
  isplitl [HK]; · iexact HK
  isplitl [HWv]; · iexact HWv
  iexact HV

/-- Part 7 of the body. -/
theorem part7_wp (v13 : BitVec 32) (v24 : BitVec 32) {α : Type} {Q : α → sProp 𝕄} (kk : _ → Prog (TpuEff nD τ sig (Elt F) Λ₀ .tc) α) :
    iprop(env m K ιw ∗ Ow (F := F) c 12 ∗ pend (F := F) c (.arS 0) ∗ pend (F := F) c (.arR 0) ∗ pend (F := F) c (.alS 0))
      ⊢ iprop(((Ow (F := F) c 12 ∗ xPt m c (sl c 0) qA ∗ past (F := F) c (.arS 0) ∗ past (F := F) c (.arR 0) ∗ xPt m c (sl c 7) qA ∗ xPt m c (sl c 7) qB ∗ xPt m c (sl c 7) qC ∗ xPt m c (sl c 0) qB ∗ past (F := F) c (.alS 0)) -∗ WP c (kk ⟨⟩) Q)
        -∗ WP c (k0_part7 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v13 v24 >>= kk) Q) := by
  rw [k0_part7_eq_skeleton]
  unfold k0_part7_skel
  simp only [Prog.lift, Prog.bind_op, Prog.bind_ret, Prog.pure_eq_ret, Prog.bind_assoc]
  iintro ⟨#He, HO, pd_arS0, pd_arR0, pd_alS0⟩ Hk
  iapply (wait_for m K ιw c (.arS 0) (n := 12) (by decide) (by decide) (gSlot_credit _ _) rfl (P := xPt m c (sl c 0) qA) (Entails.of_eq (slot_eight m c qA).symm) _) $$ [HO pd_arS0]
  · isplitl []; · iexact He
    isplitl [HO]; · iexact HO
    iexact pd_arS0
  iintro ⟨HO, ps_arS0, x0A⟩
  iapply (wait_for m K ιw c (.arR 0) (n := 12) (by decide) (by decide) (gSlot_credit _ _) rfl (P := xPt m c (sl c 7) fullShare) (BIBase.Entails.rfl) _) $$ [HO pd_arR0]
  · isplitl []; · iexact He
    isplitl [HO]; · iexact HO
    iexact pd_arR0
  iintro ⟨HO, ps_arR0, x7F⟩
  ihave Hs := (split3 m c (sl c 7)) $$ x7F
  icases Hs with ⟨x7A, x7B, x7C⟩
  iapply (wait_for m K ιw c (.alS 0) (n := 12) (by decide) (by decide) (gSlot_credit _ _) rfl (P := xPt m c (sl c 0) qB) (BIBase.Entails.rfl) _) $$ [HO pd_alS0]
  · isplitl []; · iexact He
    isplitl [HO]; · iexact HO
    iexact pd_alS0
  iintro ⟨HO, ps_alS0, x0B⟩
  iapply Hk
  isplitl [HO]; · iexact HO
  isplitl [x0A]; · iexact x0A
  isplitl [ps_arS0]; · iexact ps_arS0
  isplitl [ps_arR0]; · iexact ps_arR0
  isplitl [x7A]; · iexact x7A
  isplitl [x7B]; · iexact x7B
  isplitl [x7C]; · iexact x7C
  isplitl [x0B]; · iexact x0B
  iexact ps_alS0

/-- Part 8 of the body. -/
theorem part8_wp (v2 : BitVec 32) (v13 : BitVec 32) (v24 : BitVec 32) {α : Type} {Q : α → sProp 𝕄} (kk : _ → Prog (TpuEff nD τ sig (Elt F) Λ₀ .tc) α) :
    iprop(env m K ιw ∗ Ow (F := F) c 12 ∗ pend (F := F) c (.alR 0) ∗ xPt m c (sl c 7) qA ∗ xAny (F := F) (nxt c) (sl c 7) ∗ atPos ER (cellAt c (some (.arS 1))) 0 ∅ 0 ∗ tok (F := F) c (.arS 1) ∗ tok (F := F) (nxt c) (.arR 1))
      ⊢ iprop((∀ w : BitVec 32, (past (F := F) c (.alR 0) ∗ xPt m c (sl c 1) qA ∗ xPt m c (sl c 1) qB ∗ xPt m c (sl c 1) qC ∗ Ow (F := F) c 11 ∗ pend (F := F) c (.arS 1)) -∗ WP c (kk w) Q)
        -∗ WP c (k0_part8 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v13 v24 >>= kk) Q) := by
  rw [k0_part8_eq_skeleton]
  unfold k0_part8_skel
  simp only [Prog.lift, Prog.bind_op, Prog.bind_ret, Prog.pure_eq_ret, Prog.bind_assoc]
  iintro ⟨#He, HO, pd_alR0, x7A, dR1, at_arS1, tk_arS1, tr_arR1⟩ Hk
  iapply (wait_for m K ιw c (.alR 0) (n := 12) (by decide) (by decide) (gSlot_credit _ _) rfl (P := xPt m c (sl c 1) fullShare) (BIBase.Entails.rfl) _) $$ [HO pd_alR0]
  · isplitl []; · iexact He
    isplitl [HO]; · iexact HO
    iexact pd_alR0
  iintro ⟨HO, ps_alR0, x1F⟩
  ihave Hs := (split3 m c (sl c 1)) $$ x1F
  icases Hs with ⟨x1A, x1B, x1C⟩
  iapply (send_right m K ιw c 1 (n := 11) rfl (dev5_eq c) (off2_1 c) _ rfl rfl _) $$ [x7A dR1 HO at_arS1 tk_arS1 tr_arR1]
  · isplitl []; · iexact He
    isplitl [x7A]; · iexact x7A
    isplitl [dR1]; · iexact dR1
    isplitl [HO]; · iexact HO
    isplitl [at_arS1]; · iexact at_arS1
    isplitl [tk_arS1]; · iexact tk_arS1
    iexact tr_arR1
  iintro ⟨HO, pd_arS1⟩
  iapply Hk
  isplitl [ps_alR0]; · iexact ps_alR0
  isplitl [x1A]; · iexact x1A
  isplitl [x1B]; · iexact x1B
  isplitl [x1C]; · iexact x1C
  isplitl [HO]; · iexact HO
  iexact pd_arS1

/-- Part 9 of the body. -/
theorem part9_wp (S : Finset ℕ) (v2 : BitVec 32) (v159 : BitVec 32) {α : Type} {Q : α → sProp 𝕄} (kk : _ → Prog (TpuEff nD τ sig (Elt F) Λ₀ .tc) α) :
    iprop(env m K ιw ∗ xPt m c (sl c 1) qB ∗ xAny (F := F) (prv c) (sl c 1) ∗ Ow (F := F) c 11 ∗ atPos ER (cellAt c (some (.alS 1))) 0 ∅ 0 ∗ tok (F := F) c (.alS 1) ∗ tok (F := F) (prv c) (.alR 1) ∗ xPt m c (sl c 7) qC ∗ stWk m c ∗ kAt m c S ∗ stWv m c)
      ⊢ iprop((∀ w : BitVec 32, (Ow (F := F) c 10 ∗ pend (F := F) c (.alS 1) ∗ xPt m c (sl c 7) qC ∗ stWk m c ∗ kAt m c (insert (sl c 7) S) ∗ stWv m c) -∗ WP c (kk ⟨w, k0_pay22 (xSl m (sl c 7) (sl_lt c 7)) (wvst m c)⟩) Q)
        -∗ WP c (k0_part9 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v159 >>= kk) Q) := by
  rw [k0_part9_eq_skeleton]
  unfold k0_part9_skel
  simp only [Prog.lift, Prog.bind_op, Prog.bind_ret, Prog.pure_eq_ret, Prog.bind_assoc]
  iintro ⟨#He, x1B, dL1, HO, at_alS1, tk_alS1, tr_alR1, x7C, HWk, HK, HWv⟩ Hk
  iapply (send_left m K ιw c 1 (n := 10) rfl (dev6_eq c) (off3_1 c) _ rfl rfl _) $$ [x1B dL1 HO at_alS1 tk_alS1 tr_alR1]
  · isplitl []; · iexact He
    isplitl [x1B]; · iexact x1B
    isplitl [dL1]; · iexact dL1
    isplitl [HO]; · iexact HO
    isplitl [at_alS1]; · iexact at_alS1
    isplitl [tk_alS1]; · iexact tk_alS1
    iexact tr_alR1
  iintro ⟨HO, pd_alS1⟩
  iapply (load_slot m c (sl_lt c 7) (off5_1 c) _) $$ x7C
  iintro x7C
  iapply (load_wk m c _) $$ HWk
  iintro HWk
  iapply (load_kany m c _ _) $$ HK
  iintro %vk HK
  iapply (store_k m c _ (sl_lt c 7) (off6_1 c) rfl _) $$ HK
  iintro HK
  iapply (load_wv m c _) $$ HWv
  iintro HWv
  iapply Hk
  isplitl [HO]; · iexact HO
  isplitl [pd_alS1]; · iexact pd_alS1
  isplitl [x7C]; · iexact x7C
  isplitl [HWk]; · iexact HWk
  isplitl [HK]; · iexact HK
  iexact HWv

/-- Part 10 of the body. -/
theorem part10_wp (S : Finset ℕ) (T : Finset ℕ) (v2 : BitVec 32) (v179 : BitVec 32) {α : Type} {Q : α → sProp 𝕄} (kk : _ → Prog (TpuEff nD τ sig (Elt F) Λ₀ .tc) α) :
    iprop(env m K ιw ∗ vAt m c T ∗ xPt m c (sl c 1) qC ∗ stWk m c ∗ kAt m c S ∗ stWv m c)
      ⊢ iprop(((vAt m c (insert (sl c 7) T) ∗ xPt m c (sl c 1) qC ∗ stWk m c ∗ kAt m c (insert (sl c 1) S) ∗ stWv m c) -∗ WP c (kk (k0_pay26 (xSl m (sl c 1) (sl_lt c 1)) (wvst m c))) Q)
        -∗ WP c (k0_part10 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v179 (k0_pay22 (xSl m (sl c 7) (sl_lt c 7)) (wvst m c)) >>= kk) Q) := by
  rw [k0_part10_eq_skeleton]
  unfold k0_part10_skel
  simp only [Prog.lift, Prog.bind_op, Prog.bind_ret, Prog.pure_eq_ret, Prog.bind_assoc]
  iintro ⟨#He, HV, x1C, HWk, HK, HWv⟩ Hk
  iapply (load_vany m c _ _) $$ HV
  iintro %vv HV
  iapply (store_v m c _ (sl_lt c 7) (off6_1 c) rfl _) $$ HV
  iintro HV
  iapply (load_slot m c (sl_lt c 1) (off7_1 c) _) $$ x1C
  iintro x1C
  iapply (load_wk m c _) $$ HWk
  iintro HWk
  iapply (load_kany m c _ _) $$ HK
  iintro %vk HK
  iapply (store_k m c _ (sl_lt c 1) (off8_1 c) rfl _) $$ HK
  iintro HK
  iapply (load_wv m c _) $$ HWv
  iintro HWv
  iapply (load_vany m c _ _) $$ HV
  iintro %vv HV
  iapply Hk
  isplitl [HV]; · iexact HV
  isplitl [x1C]; · iexact x1C
  isplitl [HWk]; · iexact HWk
  isplitl [HK]; · iexact HK
  iexact HWv

/-- Part 11 of the body. -/
theorem part11_wp (T : Finset ℕ) (v13 : BitVec 32) (v24 : BitVec 32) {α : Type} {Q : α → sProp 𝕄} (kk : _ → Prog (TpuEff nD τ sig (Elt F) Λ₀ .tc) α) :
    iprop(env m K ιw ∗ vAt m c T ∗ Ow (F := F) c 10 ∗ pend (F := F) c (.arS 1) ∗ pend (F := F) c (.arR 1) ∗ pend (F := F) c (.alS 1))
      ⊢ iprop(((vAt m c (insert (sl c 1) T) ∗ Ow (F := F) c 10 ∗ xPt m c (sl c 7) qA ∗ past (F := F) c (.arS 1) ∗ past (F := F) c (.arR 1) ∗ xPt m c (sl c 6) qA ∗ xPt m c (sl c 6) qB ∗ xPt m c (sl c 6) qC ∗ xPt m c (sl c 1) qB ∗ past (F := F) c (.alS 1)) -∗ WP c (kk ⟨⟩) Q)
        -∗ WP c (k0_part11 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v13 v24 (k0_pay26 (xSl m (sl c 1) (sl_lt c 1)) (wvst m c)) >>= kk) Q) := by
  rw [k0_part11_eq_skeleton]
  unfold k0_part11_skel
  simp only [Prog.lift, Prog.bind_op, Prog.bind_ret, Prog.pure_eq_ret, Prog.bind_assoc]
  iintro ⟨#He, HV, HO, pd_arS1, pd_arR1, pd_alS1⟩ Hk
  iapply (store_v m c _ (sl_lt c 1) (off8_1 c) rfl _) $$ HV
  iintro HV
  iapply (wait_for m K ιw c (.arS 1) (n := 10) (by decide) (by decide) (gSlot_credit _ _) rfl (P := xPt m c (sl c 7) qA) (BIBase.Entails.rfl) _) $$ [HO pd_arS1]
  · isplitl []; · iexact He
    isplitl [HO]; · iexact HO
    iexact pd_arS1
  iintro ⟨HO, ps_arS1, x7A⟩
  iapply (wait_for m K ιw c (.arR 1) (n := 10) (by decide) (by decide) (gSlot_credit _ _) rfl (P := xPt m c (sl c 6) fullShare) (BIBase.Entails.rfl) _) $$ [HO pd_arR1]
  · isplitl []; · iexact He
    isplitl [HO]; · iexact HO
    iexact pd_arR1
  iintro ⟨HO, ps_arR1, x6F⟩
  ihave Hs := (split3 m c (sl c 6)) $$ x6F
  icases Hs with ⟨x6A, x6B, x6C⟩
  iapply (wait_for m K ιw c (.alS 1) (n := 10) (by decide) (by decide) (gSlot_credit _ _) rfl (P := xPt m c (sl c 1) qB) (BIBase.Entails.rfl) _) $$ [HO pd_alS1]
  · isplitl []; · iexact He
    isplitl [HO]; · iexact HO
    iexact pd_alS1
  iintro ⟨HO, ps_alS1, x1B⟩
  iapply Hk
  isplitl [HV]; · iexact HV
  isplitl [HO]; · iexact HO
  isplitl [x7A]; · iexact x7A
  isplitl [ps_arS1]; · iexact ps_arS1
  isplitl [ps_arR1]; · iexact ps_arR1
  isplitl [x6A]; · iexact x6A
  isplitl [x6B]; · iexact x6B
  isplitl [x6C]; · iexact x6C
  isplitl [x1B]; · iexact x1B
  iexact ps_alS1

/-- Part 12 of the body. -/
theorem part12_wp (v2 : BitVec 32) (v24 : BitVec 32) {α : Type} {Q : α → sProp 𝕄} (kk : _ → Prog (TpuEff nD τ sig (Elt F) Λ₀ .tc) α) :
    iprop(env m K ιw ∗ Ow (F := F) c 10 ∗ pend (F := F) c (.alR 1) ∗ xPt m c (sl c 6) qA ∗ xAny (F := F) (nxt c) (sl c 6) ∗ atPos ER (cellAt c (some (.arS 2))) 0 ∅ 0 ∗ tok (F := F) c (.arS 2) ∗ tok (F := F) (nxt c) (.arR 2))
      ⊢ iprop(((past (F := F) c (.alR 1) ∗ xPt m c (sl c 2) qA ∗ xPt m c (sl c 2) qB ∗ xPt m c (sl c 2) qC ∗ Ow (F := F) c 9 ∗ pend (F := F) c (.arS 2)) -∗ WP c (kk ⟨⟩) Q)
        -∗ WP c (k0_part12 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v24 >>= kk) Q) := by
  rw [k0_part12_eq_skeleton]
  unfold k0_part12_skel
  simp only [Prog.lift, Prog.bind_op, Prog.bind_ret, Prog.pure_eq_ret, Prog.bind_assoc]
  iintro ⟨#He, HO, pd_alR1, x6A, dR2, at_arS2, tk_arS2, tr_arR2⟩ Hk
  iapply (wait_for m K ιw c (.alR 1) (n := 10) (by decide) (by decide) (gSlot_credit _ _) rfl (P := xPt m c (sl c 2) fullShare) (BIBase.Entails.rfl) _) $$ [HO pd_alR1]
  · isplitl []; · iexact He
    isplitl [HO]; · iexact HO
    iexact pd_alR1
  iintro ⟨HO, ps_alR1, x2F⟩
  ihave Hs := (split3 m c (sl c 2)) $$ x2F
  icases Hs with ⟨x2A, x2B, x2C⟩
  iapply (send_right m K ιw c 2 (n := 9) rfl (dev7_eq c) (off2_2 c) _ rfl rfl _) $$ [x6A dR2 HO at_arS2 tk_arS2 tr_arR2]
  · isplitl []; · iexact He
    isplitl [x6A]; · iexact x6A
    isplitl [dR2]; · iexact dR2
    isplitl [HO]; · iexact HO
    isplitl [at_arS2]; · iexact at_arS2
    isplitl [tk_arS2]; · iexact tk_arS2
    iexact tr_arR2
  iintro ⟨HO, pd_arS2⟩
  iapply Hk
  isplitl [ps_alR1]; · iexact ps_alR1
  isplitl [x2A]; · iexact x2A
  isplitl [x2B]; · iexact x2B
  isplitl [x2C]; · iexact x2C
  isplitl [HO]; · iexact HO
  iexact pd_arS2

/-- Part 13 of the body. -/
theorem part13_wp (S : Finset ℕ) (v2 : BitVec 32) (v13 : BitVec 32) {α : Type} {Q : α → sProp 𝕄} (kk : _ → Prog (TpuEff nD τ sig (Elt F) Λ₀ .tc) α) :
    iprop(env m K ιw ∗ xPt m c (sl c 2) qB ∗ xAny (F := F) (prv c) (sl c 2) ∗ Ow (F := F) c 9 ∗ atPos ER (cellAt c (some (.alS 2))) 0 ∅ 0 ∗ tok (F := F) c (.alS 2) ∗ tok (F := F) (prv c) (.alR 2) ∗ xPt m c (sl c 6) qC ∗ stWk m c ∗ kAt m c S ∗ stWv m c)
      ⊢ iprop((∀ w : BitVec 32, (Ow (F := F) c 8 ∗ pend (F := F) c (.alS 2) ∗ xPt m c (sl c 6) qC ∗ stWk m c ∗ kAt m c (insert (sl c 6) S) ∗ stWv m c) -∗ WP c (kk ⟨w, (k0_pay27 (xSl m (sl c 6) (sl_lt c 6))), (k0_pay29 (wvst m c)), (constant S512x1024 .f32 0x00000000#32)⟩) Q)
        -∗ WP c (k0_part13 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v13 >>= kk) Q) := by
  rw [k0_part13_eq_skeleton]
  unfold k0_part13_skel
  simp only [Prog.lift, Prog.bind_op, Prog.bind_ret, Prog.pure_eq_ret, Prog.bind_assoc]
  iintro ⟨#He, x2B, dL2, HO, at_alS2, tk_alS2, tr_alR2, x6C, HWk, HK, HWv⟩ Hk
  iapply (send_left m K ιw c 2 (n := 8) rfl (dev8_eq c) (off3_2 c) _ rfl rfl _) $$ [x2B dL2 HO at_alS2 tk_alS2 tr_alR2]
  · isplitl []; · iexact He
    isplitl [x2B]; · iexact x2B
    isplitl [dL2]; · iexact dL2
    isplitl [HO]; · iexact HO
    isplitl [at_alS2]; · iexact at_alS2
    isplitl [tk_alS2]; · iexact tk_alS2
    iexact tr_alR2
  iintro ⟨HO, pd_alS2⟩
  iapply (load_slot m c (sl_lt c 6) (off5_2 c) _) $$ x6C
  iintro x6C
  iapply (load_wk m c _) $$ HWk
  iintro HWk
  iapply (load_kany m c _ _) $$ HK
  iintro %vk HK
  iapply (store_k m c _ (sl_lt c 6) (off6_2 c) rfl _) $$ HK
  iintro HK
  iapply (load_wv m c _) $$ HWv
  iintro HWv
  iapply Hk
  isplitl [HO]; · iexact HO
  isplitl [pd_alS2]; · iexact pd_alS2
  isplitl [x6C]; · iexact x6C
  isplitl [HWk]; · iexact HWk
  isplitl [HK]; · iexact HK
  iexact HWv

/-- Part 14 of the body. -/
theorem part14_wp (S : Finset ℕ) (T : Finset ℕ) (v2 : BitVec 32) (v313 : BitVec 32) {α : Type} {Q : α → sProp 𝕄} (kk : _ → Prog (TpuEff nD τ sig (Elt F) Λ₀ .tc) α) :
    iprop(env m K ιw ∗ vAt m c T ∗ xPt m c (sl c 2) qC ∗ stWk m c ∗ kAt m c S ∗ stWv m c)
      ⊢ iprop((∀ vd : Vec F S512x1024 .bf16, (vAt m c (insert (sl c 6) T) ∗ xPt m c (sl c 2) qC ∗ stWk m c ∗ kAt m c (insert (sl c 2) S) ∗ stWv m c) -∗ WP c (kk ⟨(k0_pay33 (xSl m (sl c 2) (sl_lt c 2)) (wvst m c)), vd⟩) Q)
        -∗ WP c (k0_part14 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v313 (k0_pay27 (xSl m (sl c 6) (sl_lt c 6))) (k0_pay29 (wvst m c)) (constant S512x1024 .f32 0x00000000#32) >>= kk) Q) := by
  rw [k0_part14_eq_skeleton]
  unfold k0_part14_skel
  simp only [Prog.lift, Prog.bind_op, Prog.bind_ret, Prog.pure_eq_ret, Prog.bind_assoc]
  iintro ⟨#He, HV, x2C, HWk, HK, HWv⟩ Hk
  iapply (load_vany m c _ _) $$ HV
  iintro %vv HV
  iapply (store_v m c _ (sl_lt c 6) (off6_2 c) rfl _) $$ HV
  iintro HV
  iapply (load_slot m c (sl_lt c 2) (off7_2 c) _) $$ x2C
  iintro x2C
  iapply (load_wk m c _) $$ HWk
  iintro HWk
  iapply (load_kany m c _ _) $$ HK
  iintro %vk HK
  iapply (store_k m c _ (sl_lt c 2) (off8_2 c) rfl _) $$ HK
  iintro HK
  iapply (load_wv m c _) $$ HWv
  iintro HWv
  iapply (load_vany m c _ _) $$ HV
  iintro %vv HV
  iapply Hk
  isplitl [HV]; · iexact HV
  isplitl [x2C]; · iexact x2C
  isplitl [HWk]; · iexact HWk
  isplitl [HK]; · iexact HK
  iexact HWv

/-- Part 15 of the body. -/
theorem part15_wp (T : Finset ℕ) (v13 : BitVec 32) (v24 : BitVec 32) (vd : Vec F S512x1024 .bf16) {α : Type} {Q : α → sProp 𝕄} (kk : _ → Prog (TpuEff nD τ sig (Elt F) Λ₀ .tc) α) :
    iprop(env m K ιw ∗ vAt m c T ∗ Ow (F := F) c 8 ∗ pend (F := F) c (.arS 2) ∗ pend (F := F) c (.arR 2) ∗ pend (F := F) c (.alS 2))
      ⊢ iprop(((vAt m c (insert (sl c 2) T) ∗ Ow (F := F) c 8 ∗ xPt m c (sl c 6) qA ∗ past (F := F) c (.arS 2) ∗ past (F := F) c (.arR 2) ∗ xPt m c (sl c 5) qA ∗ xPt m c (sl c 5) qB ∗ xPt m c (sl c 5) qC ∗ xPt m c (sl c 2) qB ∗ past (F := F) c (.alS 2)) -∗ WP c (kk ⟨⟩) Q)
        -∗ WP c (k0_part15 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v13 v24 (k0_pay33 (xSl m (sl c 2) (sl_lt c 2)) (wvst m c)) vd >>= kk) Q) := by
  rw [k0_part15_eq_skeleton]
  unfold k0_part15_skel
  simp only [Prog.lift, Prog.bind_op, Prog.bind_ret, Prog.pure_eq_ret, Prog.bind_assoc]
  iintro ⟨#He, HV, HO, pd_arS2, pd_arR2, pd_alS2⟩ Hk
  iapply (store_v m c _ (sl_lt c 2) (off8_2 c) rfl _) $$ HV
  iintro HV
  iapply (wait_for m K ιw c (.arS 2) (n := 8) (by decide) (by decide) (gSlot_credit _ _) rfl (P := xPt m c (sl c 6) qA) (BIBase.Entails.rfl) _) $$ [HO pd_arS2]
  · isplitl []; · iexact He
    isplitl [HO]; · iexact HO
    iexact pd_arS2
  iintro ⟨HO, ps_arS2, x6A⟩
  iapply (wait_for m K ιw c (.arR 2) (n := 8) (by decide) (by decide) (gSlot_credit _ _) rfl (P := xPt m c (sl c 5) fullShare) (BIBase.Entails.rfl) _) $$ [HO pd_arR2]
  · isplitl []; · iexact He
    isplitl [HO]; · iexact HO
    iexact pd_arR2
  iintro ⟨HO, ps_arR2, x5F⟩
  ihave Hs := (split3 m c (sl c 5)) $$ x5F
  icases Hs with ⟨x5A, x5B, x5C⟩
  iapply (wait_for m K ιw c (.alS 2) (n := 8) (by decide) (by decide) (gSlot_credit _ _) rfl (P := xPt m c (sl c 2) qB) (BIBase.Entails.rfl) _) $$ [HO pd_alS2]
  · isplitl []; · iexact He
    isplitl [HO]; · iexact HO
    iexact pd_alS2
  iintro ⟨HO, ps_alS2, x2B⟩
  iapply Hk
  isplitl [HV]; · iexact HV
  isplitl [HO]; · iexact HO
  isplitl [x6A]; · iexact x6A
  isplitl [ps_arS2]; · iexact ps_arS2
  isplitl [ps_arR2]; · iexact ps_arR2
  isplitl [x5A]; · iexact x5A
  isplitl [x5B]; · iexact x5B
  isplitl [x5C]; · iexact x5C
  isplitl [x2B]; · iexact x2B
  iexact ps_alS2

/-- Part 16 of the body. -/
theorem part16_wp (v2 : BitVec 32) (v24 : BitVec 32) {α : Type} {Q : α → sProp 𝕄} (kk : _ → Prog (TpuEff nD τ sig (Elt F) Λ₀ .tc) α) :
    iprop(env m K ιw ∗ Ow (F := F) c 8 ∗ pend (F := F) c (.alR 2) ∗ xPt m c (sl c 5) qA ∗ xAny (F := F) (nxt c) (sl c 5) ∗ atPos ER (cellAt c (some (.arS 3))) 0 ∅ 0 ∗ tok (F := F) c (.arS 3) ∗ tok (F := F) (nxt c) (.arR 3))
      ⊢ iprop((∀ w : BitVec 32, (past (F := F) c (.alR 2) ∗ xPt m c (sl c 3) qA ∗ xPt m c (sl c 3) qB ∗ xPt m c (sl c 3) qC ∗ Ow (F := F) c 7 ∗ pend (F := F) c (.arS 3)) -∗ WP c (kk w) Q)
        -∗ WP c (k0_part16 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 v24 >>= kk) Q) := by
  rw [k0_part16_eq_skeleton]
  unfold k0_part16_skel
  simp only [Prog.lift, Prog.bind_op, Prog.bind_ret, Prog.pure_eq_ret, Prog.bind_assoc]
  iintro ⟨#He, HO, pd_alR2, x5A, dR3, at_arS3, tk_arS3, tr_arR3⟩ Hk
  iapply (wait_for m K ιw c (.alR 2) (n := 8) (by decide) (by decide) (gSlot_credit _ _) rfl (P := xPt m c (sl c 3) fullShare) (BIBase.Entails.rfl) _) $$ [HO pd_alR2]
  · isplitl []; · iexact He
    isplitl [HO]; · iexact HO
    iexact pd_alR2
  iintro ⟨HO, ps_alR2, x3F⟩
  ihave Hs := (split3 m c (sl c 3)) $$ x3F
  icases Hs with ⟨x3A, x3B, x3C⟩
  iapply (send_right m K ιw c 3 (n := 7) rfl (dev9_eq c) (off2_3 c) _ rfl rfl _) $$ [x5A dR3 HO at_arS3 tk_arS3 tr_arR3]
  · isplitl []; · iexact He
    isplitl [x5A]; · iexact x5A
    isplitl [dR3]; · iexact dR3
    isplitl [HO]; · iexact HO
    isplitl [at_arS3]; · iexact at_arS3
    isplitl [tk_arS3]; · iexact tk_arS3
    iexact tr_arR3
  iintro ⟨HO, pd_arS3⟩
  iapply Hk
  isplitl [ps_alR2]; · iexact ps_alR2
  isplitl [x3A]; · iexact x3A
  isplitl [x3B]; · iexact x3B
  isplitl [x3C]; · iexact x3C
  isplitl [HO]; · iexact HO
  iexact pd_arS3

/-- Part 17 of the body. -/
theorem part17_wp (S : Finset ℕ) (T : Finset ℕ) (v2 : BitVec 32) (w : BitVec 32) {α : Type} {Q : α → sProp 𝕄} (kk : _ → Prog (TpuEff nD τ sig (Elt F) Λ₀ .tc) α) :
    iprop(env m K ιw ∗ xPt m c (sl c 5) qC ∗ stWk m c ∗ kAt m c S ∗ stWv m c ∗ vAt m c T ∗ xPt m c (sl c 3) qC)
      ⊢ iprop((∀ u : BitVec 32, (xPt m c (sl c 5) qC ∗ stWk m c ∗ kAt m c (insert (sl c 5) S) ∗ stWv m c ∗ vAt m c (insert (sl c 5) T) ∗ xPt m c (sl c 3) qC) -∗ WP c (kk ⟨u, (k0_pay38 (xSl m (sl c 3) (sl_lt c 3)))⟩) Q)
        -∗ WP c (k0_part17 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2 w >>= kk) Q) := by
  rw [k0_part17_eq_skeleton]
  unfold k0_part17_skel
  simp only [Prog.lift, Prog.bind_op, Prog.bind_ret, Prog.pure_eq_ret, Prog.bind_assoc]
  iintro ⟨#He, x5C, HWk, HK, HWv, HV, x3C⟩ Hk
  iapply (load_slot m c (sl_lt c 5) (off5_3 c) _) $$ x5C
  iintro x5C
  iapply (load_wk m c _) $$ HWk
  iintro HWk
  iapply (load_kany m c _ _) $$ HK
  iintro %vk HK
  iapply (store_k m c _ (sl_lt c 5) (off6_3 c) rfl _) $$ HK
  iintro HK
  iapply (load_wv m c _) $$ HWv
  iintro HWv
  iapply (load_vany m c _ _) $$ HV
  iintro %vv HV
  iapply (store_v m c _ (sl_lt c 5) (off6_3 c) rfl _) $$ HV
  iintro HV
  iapply (load_slot m c (sl_lt c 3) (off7_3 c) _) $$ x3C
  iintro x3C
  iapply Hk
  isplitl [x5C]; · iexact x5C
  isplitl [HWk]; · iexact HWk
  isplitl [HK]; · iexact HK
  isplitl [HWv]; · iexact HWv
  isplitl [HV]; · iexact HV
  iexact x3C

/-- Part 18 of the body. -/
theorem part18_wp (S : Finset ℕ) (T : Finset ℕ) (v24 : BitVec 32) (u : BitVec 32) {α : Type} {Q : α → sProp 𝕄} (kk : _ → Prog (TpuEff nD τ sig (Elt F) Λ₀ .tc) α) :
    iprop(env m K ιw ∗ stWk m c ∗ kAt m c S ∗ stWv m c ∗ vAt m c T ∗ Ow (F := F) c 7 ∗ pend (F := F) c (.arS 3) ∗ pend (F := F) c (.arR 3))
      ⊢ iprop((∀ w : BitVec 32, (stWk m c ∗ kAt m c (insert (sl c 3) S) ∗ stWv m c ∗ vAt m c (insert (sl c 3) T) ∗ Ow (F := F) c 7 ∗ xPt m c (sl c 5) qA ∗ past (F := F) c (.arS 3) ∗ xPt m c (sl c 4) fullShare ∗ past (F := F) c (.arR 3)) -∗ WP c (kk w) Q)
        -∗ WP c (k0_part18 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v24 u (k0_pay38 (xSl m (sl c 3) (sl_lt c 3))) >>= kk) Q) := by
  rw [k0_part18_eq_skeleton]
  unfold k0_part18_skel
  simp only [Prog.lift, Prog.bind_op, Prog.bind_ret, Prog.pure_eq_ret, Prog.bind_assoc]
  iintro ⟨#He, HWk, HK, HWv, HV, HO, pd_arS3, pd_arR3⟩ Hk
  iapply (load_wk m c _) $$ HWk
  iintro HWk
  iapply (load_kany m c _ _) $$ HK
  iintro %vk HK
  iapply (store_k m c _ (sl_lt c 3) (off8_3 c) rfl _) $$ HK
  iintro HK
  iapply (load_wv m c _) $$ HWv
  iintro HWv
  iapply (load_vany m c _ _) $$ HV
  iintro %vv HV
  iapply (store_v m c _ (sl_lt c 3) (off8_3 c) rfl _) $$ HV
  iintro HV
  iapply (wait_for m K ιw c (.arS 3) (n := 7) (by decide) (by decide) (gSlot_credit _ _) rfl (P := xPt m c (sl c 5) qA) (BIBase.Entails.rfl) _) $$ [HO pd_arS3]
  · isplitl []; · iexact He
    isplitl [HO]; · iexact HO
    iexact pd_arS3
  iintro ⟨HO, ps_arS3, x5A⟩
  iapply (wait_for m K ιw c (.arR 3) (n := 7) (by decide) (by decide) (gSlot_credit _ _) rfl (P := xPt m c (sl c 4) fullShare) (BIBase.Entails.rfl) _) $$ [HO pd_arR3]
  · isplitl []; · iexact He
    isplitl [HO]; · iexact HO
    iexact pd_arR3
  iintro ⟨HO, ps_arR3, x4F⟩
  iapply Hk
  isplitl [HWk]; · iexact HWk
  isplitl [HK]; · iexact HK
  isplitl [HWv]; · iexact HWv
  isplitl [HV]; · iexact HV
  isplitl [HO]; · iexact HO
  isplitl [x5A]; · iexact x5A
  isplitl [ps_arS3]; · iexact ps_arS3
  isplitl [x4F]; · iexact x4F
  iexact ps_arR3

end Cert.RingIdeal

end
-- ==== Proof.RingIdeal.Gather.lean ====
/- The gather whole: the printed parts in order. -/
module

public import proofs.«01_k».proof.Proof.RingIdeal.Parts

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-- What the gather needs besides the barrier: the staged blocks, its own slot, the keys and the values, its places and its
    duties on the transfers' semaphores. -/
def gatherPre : sProp 𝕄 := iprop(stX m c ∗ xAny (F := F) c (sl c 0) ∗ atPos ER (cellAt c (some (.arS 0))) 0 ∅ 0 ∗ tok (F := F) c (.arS 0) ∗ tok (F := F) (nxt c) (.arR 0) ∗ atPos ER (cellAt c (some (.alS 0))) 0 ∅ 0 ∗ tok (F := F) c (.alS 0) ∗ tok (F := F) (prv c) (.alR 0) ∗ stWk m c ∗ kAt m c ∅ ∗ stWv m c ∗ vAt m c ∅ ∗ pend (F := F) c (.arR 0) ∗ pend (F := F) c (.alR 0) ∗ atPos ER (cellAt c (some (.arS 1))) 0 ∅ 0 ∗ tok (F := F) c (.arS 1) ∗ tok (F := F) (nxt c) (.arR 1) ∗ atPos ER (cellAt c (some (.alS 1))) 0 ∅ 0 ∗ tok (F := F) c (.alS 1) ∗ tok (F := F) (prv c) (.alR 1) ∗ pend (F := F) c (.arR 1) ∗ pend (F := F) c (.alR 1) ∗ atPos ER (cellAt c (some (.arS 2))) 0 ∅ 0 ∗ tok (F := F) c (.arS 2) ∗ tok (F := F) (nxt c) (.arR 2) ∗ atPos ER (cellAt c (some (.alS 2))) 0 ∅ 0 ∗ tok (F := F) c (.alS 2) ∗ tok (F := F) (prv c) (.alR 2) ∗ pend (F := F) c (.arR 2) ∗ pend (F := F) c (.alR 2) ∗ atPos ER (cellAt c (some (.arS 3))) 0 ∅ 0 ∗ tok (F := F) c (.arS 3) ∗ tok (F := F) (nxt c) (.arR 3) ∗ pend (F := F) c (.arR 3))
/-- What the other devices lend for the gather. -/
def gatherLent : sProp 𝕄 := iprop(xAny (F := F) (nxt c) (sl c 8) ∗ xAny (F := F) (prv c) (sl c 0) ∗ xAny (F := F) (nxt c) (sl c 7) ∗ xAny (F := F) (prv c) (sl c 1) ∗ xAny (F := F) (nxt c) (sl c 6) ∗ xAny (F := F) (prv c) (sl c 2) ∗ xAny (F := F) (nxt c) (sl c 5))
/-- What the gather leaves. -/
def gatherPost : sProp 𝕄 := iprop(stX m c ∗ xPt m c (sl c 0) qC ∗ xPt m c (sl c 0) qA ∗ past (F := F) c (.arS 0) ∗ past (F := F) c (.arR 0) ∗ xPt m c (sl c 7) qB ∗ xPt m c (sl c 0) qB ∗ past (F := F) c (.alS 0) ∗ past (F := F) c (.alR 0) ∗ xPt m c (sl c 1) qA ∗ xPt m c (sl c 7) qC ∗ xPt m c (sl c 1) qC ∗ xPt m c (sl c 7) qA ∗ past (F := F) c (.arS 1) ∗ past (F := F) c (.arR 1) ∗ xPt m c (sl c 6) qB ∗ xPt m c (sl c 1) qB ∗ past (F := F) c (.alS 1) ∗ past (F := F) c (.alR 1) ∗ xPt m c (sl c 2) qA ∗ xPt m c (sl c 6) qC ∗ xPt m c (sl c 2) qC ∗ xPt m c (sl c 6) qA ∗ past (F := F) c (.arS 2) ∗ past (F := F) c (.arR 2) ∗ xPt m c (sl c 5) qB ∗ xPt m c (sl c 2) qB ∗ past (F := F) c (.alS 2) ∗ past (F := F) c (.alR 2) ∗ xPt m c (sl c 3) qA ∗ xPt m c (sl c 3) qB ∗ xPt m c (sl c 5) qC ∗ xPt m c (sl c 3) qC ∗ stWk m c ∗ kAt m c (insert (sl c 4) (insert (sl c 3) (insert (sl c 5) (insert (sl c 2) (insert (sl c 6) (insert (sl c 1) (insert (sl c 7) (insert (sl c 0) ∅)))))))) ∗ stWv m c ∗ vAt m c (insert (sl c 3) (insert (sl c 5) (insert (sl c 2) (insert (sl c 6) (insert (sl c 1) (insert (sl c 7) (insert (sl c 0) ∅))))))) ∗ Ow (F := F) c 7 ∗ xPt m c (sl c 5) qA ∗ past (F := F) c (.arS 3) ∗ past (F := F) c (.arR 3) ∗ xPt m c (sl c 4) qA ∗ xPt m c (sl c 4) qB ∗ xPt m c (sl c 4) qC)

set_option maxHeartbeats 1600000 in
/-- The parts of the gather put together. -/
theorem part19_wp (R : sProp 𝕄) {α : Type} {Q : α → sProp 𝕄} (kk : _ → Prog (TpuEff nD τ sig (Elt F) Λ₀ .tc) α) :
    iprop(env m K ιw ∗ barPre m c ∗ gatherPre m c ∗ (barPost m c -∗ (Ow (F := F) c 14 ∗ gatherLent (F := F) c ∗ R)))
      ⊢ iprop((∀ v2 : BitVec 32, ∀ v24 : BitVec 32, ∀ v504 : BitVec 32, ∀ w : BitVec 32, (gatherPost m c ∗ R) -∗ WP c (kk ⟨c, v2, v24, v504, (k0_pay43 (xSl m (sl c 4) (sl_lt c 4)) (wvst m c)), w⟩) Q)
        -∗ WP c (k0_part19 xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 >>= kk) Q) := by
  rw [k0_part19_eq_skeleton]
  unfold k0_part19_skel gatherPre gatherLent
  simp only [Prog.lift, Prog.bind_op, Prog.bind_ret, Prog.pure_eq_ret, Prog.bind_assoc]
  iintro ⟨#He, Hb, ⟨HX, own, at_arS0, tk_arS0, tr_arR0, at_alS0, tk_alS0, tr_alR0, HWk, HK, HWv, HV, pd_arR0, pd_alR0, at_arS1, tk_arS1, tr_arR1, at_alS1, tk_alS1, tr_alR1, pd_arR1, pd_alR1, at_arS2, tk_arS2, tr_arR2, at_alS2, tk_alS2, tr_alR2, pd_arR2, pd_alR2, at_arS3, tk_arS3, tr_arR3, pd_arR3⟩, Hlend⟩ Hk
  iapply (part4_wp m K ιw c _) $$ [Hb]
  · isplitl []; · iexact He
    iexact Hb
  iintro %_ %_ %_ Hb
  ispecialize Hlend $$ Hb
  icases Hlend with ⟨HO, ⟨dR0, dL0, dR1, dL1, dR2, dL2, dR3⟩, Hrest⟩
  iapply (part5_wp m K ιw c _ _ _) $$ [HX own dR0 HO at_arS0 tk_arS0 tr_arR0]
  · isplitl []; · iexact He
    isplitl [HX]; · iexact HX
    isplitl [own]; · iexact own
    isplitl [dR0]; · iexact dR0
    isplitl [HO]; · iexact HO
    isplitl [at_arS0]; · iexact at_arS0
    isplitl [tk_arS0]; · iexact tk_arS0
    iexact tr_arR0
  iintro %_ %_ %_ %_ %_ ⟨HX, x0B, x0C, HO, pd_arS0⟩
  iapply (part6_wp m K ιw c _ _ _ _ _ _ _ _ _ _) $$ [x0B dL0 HO at_alS0 tk_alS0 tr_alR0 x0C HWk HK HWv HV]
  · isplitl []; · iexact He
    isplitl [x0B]; · iexact x0B
    isplitl [dL0]; · iexact dL0
    isplitl [HO]; · iexact HO
    isplitl [at_alS0]; · iexact at_alS0
    isplitl [tk_alS0]; · iexact tk_alS0
    isplitl [tr_alR0]; · iexact tr_alR0
    isplitl [x0C]; · iexact x0C
    isplitl [HWk]; · iexact HWk
    isplitl [HK]; · iexact HK
    isplitl [HWv]; · iexact HWv
    iexact HV
  iintro ⟨HO, pd_alS0, x0C, HWk, HK, HWv, HV⟩
  iapply (part7_wp m K ιw c _ _ _) $$ [HO pd_arS0 pd_arR0 pd_alS0]
  · isplitl []; · iexact He
    isplitl [HO]; · iexact HO
    isplitl [pd_arS0]; · iexact pd_arS0
    isplitl [pd_arR0]; · iexact pd_arR0
    iexact pd_alS0
  iintro ⟨HO, x0A, ps_arS0, ps_arR0, x7A, x7B, x7C, x0B, ps_alS0⟩
  iapply (part8_wp m K ιw c _ _ _ _) $$ [HO pd_alR0 x7A dR1 at_arS1 tk_arS1 tr_arR1]
  · isplitl []; · iexact He
    isplitl [HO]; · iexact HO
    isplitl [pd_alR0]; · iexact pd_alR0
    isplitl [x7A]; · iexact x7A
    isplitl [dR1]; · iexact dR1
    isplitl [at_arS1]; · iexact at_arS1
    isplitl [tk_arS1]; · iexact tk_arS1
    iexact tr_arR1
  iintro %_ ⟨ps_alR0, x1A, x1B, x1C, HO, pd_arS1⟩
  iapply (part9_wp m K ιw c _ _ _ _) $$ [x1B dL1 HO at_alS1 tk_alS1 tr_alR1 x7C HWk HK HWv]
  · isplitl []; · iexact He
    isplitl [x1B]; · iexact x1B
    isplitl [dL1]; · iexact dL1
    isplitl [HO]; · iexact HO
    isplitl [at_alS1]; · iexact at_alS1
    isplitl [tk_alS1]; · iexact tk_alS1
    isplitl [tr_alR1]; · iexact tr_alR1
    isplitl [x7C]; · iexact x7C
    isplitl [HWk]; · iexact HWk
    isplitl [HK]; · iexact HK
    iexact HWv
  iintro %_ ⟨HO, pd_alS1, x7C, HWk, HK, HWv⟩
  iapply (part10_wp m K ιw c _ _ _ _ _) $$ [HV x1C HWk HK HWv]
  · isplitl []; · iexact He
    isplitl [HV]; · iexact HV
    isplitl [x1C]; · iexact x1C
    isplitl [HWk]; · iexact HWk
    isplitl [HK]; · iexact HK
    iexact HWv
  iintro ⟨HV, x1C, HWk, HK, HWv⟩
  iapply (part11_wp m K ιw c _ _ _ _) $$ [HV HO pd_arS1 pd_arR1 pd_alS1]
  · isplitl []; · iexact He
    isplitl [HV]; · iexact HV
    isplitl [HO]; · iexact HO
    isplitl [pd_arS1]; · iexact pd_arS1
    isplitl [pd_arR1]; · iexact pd_arR1
    iexact pd_alS1
  iintro ⟨HV, HO, x7A, ps_arS1, ps_arR1, x6A, x6B, x6C, x1B, ps_alS1⟩
  iapply (part12_wp m K ιw c _ _ _) $$ [HO pd_alR1 x6A dR2 at_arS2 tk_arS2 tr_arR2]
  · isplitl []; · iexact He
    isplitl [HO]; · iexact HO
    isplitl [pd_alR1]; · iexact pd_alR1
    isplitl [x6A]; · iexact x6A
    isplitl [dR2]; · iexact dR2
    isplitl [at_arS2]; · iexact at_arS2
    isplitl [tk_arS2]; · iexact tk_arS2
    iexact tr_arR2
  iintro ⟨ps_alR1, x2A, x2B, x2C, HO, pd_arS2⟩
  iapply (part13_wp m K ιw c _ _ _ _) $$ [x2B dL2 HO at_alS2 tk_alS2 tr_alR2 x6C HWk HK HWv]
  · isplitl []; · iexact He
    isplitl [x2B]; · iexact x2B
    isplitl [dL2]; · iexact dL2
    isplitl [HO]; · iexact HO
    isplitl [at_alS2]; · iexact at_alS2
    isplitl [tk_alS2]; · iexact tk_alS2
    isplitl [tr_alR2]; · iexact tr_alR2
    isplitl [x6C]; · iexact x6C
    isplitl [HWk]; · iexact HWk
    isplitl [HK]; · iexact HK
    iexact HWv
  iintro %_ ⟨HO, pd_alS2, x6C, HWk, HK, HWv⟩
  iapply (part14_wp m K ιw c _ _ _ _ _) $$ [HV x2C HWk HK HWv]
  · isplitl []; · iexact He
    isplitl [HV]; · iexact HV
    isplitl [x2C]; · iexact x2C
    isplitl [HWk]; · iexact HWk
    isplitl [HK]; · iexact HK
    iexact HWv
  iintro %_ ⟨HV, x2C, HWk, HK, HWv⟩
  iapply (part15_wp m K ιw c _ _ _ _ _) $$ [HV HO pd_arS2 pd_arR2 pd_alS2]
  · isplitl []; · iexact He
    isplitl [HV]; · iexact HV
    isplitl [HO]; · iexact HO
    isplitl [pd_arS2]; · iexact pd_arS2
    isplitl [pd_arR2]; · iexact pd_arR2
    iexact pd_alS2
  iintro ⟨HV, HO, x6A, ps_arS2, ps_arR2, x5A, x5B, x5C, x2B, ps_alS2⟩
  iapply (part16_wp m K ιw c _ _ _) $$ [HO pd_alR2 x5A dR3 at_arS3 tk_arS3 tr_arR3]
  · isplitl []; · iexact He
    isplitl [HO]; · iexact HO
    isplitl [pd_alR2]; · iexact pd_alR2
    isplitl [x5A]; · iexact x5A
    isplitl [dR3]; · iexact dR3
    isplitl [at_arS3]; · iexact at_arS3
    isplitl [tk_arS3]; · iexact tk_arS3
    iexact tr_arR3
  iintro %_ ⟨ps_alR2, x3A, x3B, x3C, HO, pd_arS3⟩
  iapply (part17_wp m K ιw c _ _ _ _ _) $$ [x5C HWk HK HWv HV x3C]
  · isplitl []; · iexact He
    isplitl [x5C]; · iexact x5C
    isplitl [HWk]; · iexact HWk
    isplitl [HK]; · iexact HK
    isplitl [HWv]; · iexact HWv
    isplitl [HV]; · iexact HV
    iexact x3C
  iintro %_ ⟨x5C, HWk, HK, HWv, HV, x3C⟩
  iapply (part18_wp m K ιw c _ _ _ _ _) $$ [HWk HK HWv HV HO pd_arS3 pd_arR3]
  · isplitl []; · iexact He
    isplitl [HWk]; · iexact HWk
    isplitl [HK]; · iexact HK
    isplitl [HWv]; · iexact HWv
    isplitl [HV]; · iexact HV
    isplitl [HO]; · iexact HO
    isplitl [pd_arS3]; · iexact pd_arS3
    iexact pd_arR3
  iintro %_ ⟨HWk, HK, HWv, HV, HO, x5A, ps_arS3, x4F, ps_arR3⟩
  ihave Hs := (split3 m c (sl c 4)) $$ x4F
  icases Hs with ⟨x4A, x4B, x4C⟩
  iapply (load_slot m c (sl_lt c 4) (off7_4 c) _) $$ x4C
  iintro x4C
  iapply (load_wk m c _) $$ HWk
  iintro HWk
  iapply (load_kany m c _ _) $$ HK
  iintro %vk HK
  iapply (store_k m c _ (sl_lt c 4) (off8_4 c) rfl _) $$ HK
  iintro HK
  iapply (load_wv m c _) $$ HWv
  iintro HWv
  iapply Hk
  isplitr [Hrest]
  swap
  · iexact Hrest
  unfold gatherPost
  isplitl [HX]; · iexact HX
  isplitl [x0C]; · iexact x0C
  isplitl [x0A]; · iexact x0A
  isplitl [ps_arS0]; · iexact ps_arS0
  isplitl [ps_arR0]; · iexact ps_arR0
  isplitl [x7B]; · iexact x7B
  isplitl [x0B]; · iexact x0B
  isplitl [ps_alS0]; · iexact ps_alS0
  isplitl [ps_alR0]; · iexact ps_alR0
  isplitl [x1A]; · iexact x1A
  isplitl [x7C]; · iexact x7C
  isplitl [x1C]; · iexact x1C
  isplitl [x7A]; · iexact x7A
  isplitl [ps_arS1]; · iexact ps_arS1
  isplitl [ps_arR1]; · iexact ps_arR1
  isplitl [x6B]; · iexact x6B
  isplitl [x1B]; · iexact x1B
  isplitl [ps_alS1]; · iexact ps_alS1
  isplitl [ps_alR1]; · iexact ps_alR1
  isplitl [x2A]; · iexact x2A
  isplitl [x6C]; · iexact x6C
  isplitl [x2C]; · iexact x2C
  isplitl [x6A]; · iexact x6A
  isplitl [ps_arS2]; · iexact ps_arS2
  isplitl [ps_arR2]; · iexact ps_arR2
  isplitl [x5B]; · iexact x5B
  isplitl [x2B]; · iexact x2B
  isplitl [ps_alS2]; · iexact ps_alS2
  isplitl [ps_alR2]; · iexact ps_alR2
  isplitl [x3A]; · iexact x3A
  isplitl [x3B]; · iexact x3B
  isplitl [x5C]; · iexact x5C
  isplitl [x3C]; · iexact x3C
  isplitl [HWk]; · iexact HWk
  isplitl [HK]; · iexact HK
  isplitl [HWv]; · iexact HWv
  isplitl [HV]; · iexact HV
  isplitl [HO]; · iexact HO
  isplitl [x5A]; · iexact x5A
  isplitl [ps_arS3]; · iexact ps_arS3
  isplitl [ps_arR3]; · iexact ps_arR3
  isplitl [x4A]; · iexact x4A
  isplitl [x4B]; · iexact x4B
  iexact x4C

end Cert.RingIdeal

end
-- ==== Proof.RingIdeal.Body.lean ====
/- The body: the gather, then the loop; what a device starts with and what it ends with. -/
module

public import proofs.«01_k».proof.Proof.RingIdeal.Buffers
public import proofs.«01_k».proof.Proof.RingIdeal.Gather

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

/-! ## What a device starts with -/

def sRes (t : Fin 7) : sProp 𝕄 := iprop(atPos ER (cellAt c (some (.rsS t))) 0 ∅ 0 ∗ tok (F := F) c (.rsS t))
def rRes (t : Fin 7) : sProp 𝕄 := iprop(pend (F := F) c (.rsR t) ∗ tok (F := F) (nxt c) (.rsR t))
/-- Its share of the transfers' protocol, cell by cell: its place there, the right to make the payment that is its to make,
    and, at a cell another device pays, the promised credit. -/
def kRes : CK → sProp 𝕄
  | .arS h => iprop(atPos ER (cellAt c (some (.arS h))) 0 ∅ 0 ∗ tok (F := F) c (.arS h))
  | .arR h => iprop(pend (F := F) c (.arR h) ∗ tok (F := F) (nxt c) (.arR h))
  | .alS h => iprop(atPos ER (cellAt c (some (.alS h))) 0 ∅ 0 ∗ tok (F := F) c (.alS h))
  | .alR h => iprop(pend (F := F) c (.alR h) ∗ tok (F := F) (prv c) (.alR h))
  | .rsS t => sRes c t
  | .rsR t => rRes c t

/-- Its share of the whole protocol. -/
def share : sProp 𝕄 := iprop((bigSep Finset.univ fun k : CK => kRes (F := F) c k)
  ∗ dutyTok ER (cellAt (prv c) none) 0 true ∗ dutyTok ER (cellAt (nxt c) none) 0 false
  ∗ cred (tallyAt (cellAt c none) () 2) ∗ atPos ER (cellAt c none) 0 ∅ 0)

/-- The kernel's scratch buffers, at some contents. -/
def scratch : sProp 𝕄 := iprop((∃ f, xL c ↦{fullShare} f) ∗ (∃ f, kL c ↦{fullShare} f) ∗ (∃ f, vL c ↦{fullShare} f) ∗ (∃ f, rL c ↦{fullShare} f) ∗ ∃ f, sL c ↦{fullShare} f)

/-- What the body leaves. -/
def bodyEnd : sProp 𝕄 := iprop(scratch (F := F) c ∗ stX m c ∗ stWq m c ∗ stWo m c ∗ stWk m c ∗ stWv m c ∗ oPt m c ∗ Ow (F := F) c 0
  ∗ (bigSep Finset.univ fun k : CK => (semVal (cellAt c (some k)) 0 : sProp 𝕄)) ∗ semVal (cellAt c none) 0)

theorem s_view : (iprop(∃ f, sL c ↦{fullShare} f) : sProp 𝕄) = sAny c := by
  have h : (sM.view.set : Finset S512x1024.Idx) = Finset.univ := by rw [Memref.view_whole, View.set_whole]
  unfold sAny; rw [h]

theorem all_slabs {s : ℕ} (h : s < 8) : s ∈ (insert (sl c 4) (insert (sl c 3) (insert (sl c 5) (insert (sl c 2) (insert (sl c 6) (insert (sl c 1) (insert (sl c 7) (insert (sl c 0) (∅ : Finset ℕ)))))))) ) := by
  obtain ⟨k, hk⟩ := sl_surj ⟨s, h⟩ c
  have hk : sl c k.val = s := hk
  rw [← hk]
  simp only [Finset.mem_insert]
  fin_cases k <;> simp

/-- What the neighbours lend at the barrier, as the gather and the loop take it. -/
theorem lent : barPost m c ⊢ iprop(Ow (F := F) c 14 ∗ gatherLent (F := F) c
    ∗ (atPos ER (cellAt c none) 1 ∅ 0 ∗ bigSep Finset.univ fun t : Fin 7 => rWm m (nxt c) t.val qA ∅)) := by
  unfold barPost gatherLent barL barR
  rw [bigSep_3, bigSep_4]
  iintro ⟨HO, Hat, ⟨L0, L1, L2⟩, ⟨R0, R1, R2, R3⟩, Hr⟩
  isplitl [HO]; · iexact HO
  isplitl [L0 L1 L2 R0 R1 R2 R3]
  · isplitl [R0]; · iexact R0
    isplitl [L0]; · iexact L0
    isplitl [R1]; · iexact R1
    isplitl [L1]; · iexact L1
    isplitl [R2]; · iexact R2
    isplitl [L2]; · iexact L2
    iexact R3
  isplitl [Hat]; · iexact Hat
  iexact Hr

/-- The slots as the loop finds them. -/
theorem slots_start : iprop((bigSep Finset.univ fun t : Fin 7 => rWm m c t.val fullShare.right ∅) ∗ (bigSep Finset.univ fun t : Fin 7 => rWm m (nxt c) t.val qA ∅)
      ∗ (bigSep Finset.univ fun t : Fin 7 => sRes (F := F) c t) ∗ bigSep Finset.univ fun t : Fin 7 => rRes (F := F) c t)
    ⊢ bigSep Finset.univ fun s : Fin 7 => slotSt m c 0 s := by
  rw [← bigSep_sep', ← bigSep_sep', ← bigSep_sep']
  refine bigSep_mono fun s _ => ?_
  unfold slotSt
  rw [rcvSt_wait m c (by omega), sndSt_all m c (by omega)]
  show iprop(rWm m c s.val fullShare.right ∅ ∗ rWm m (nxt c) s.val qA ∅ ∗ (atPos ER (cellAt c (some (.rsS s))) 0 ∅ 0 ∗ tok (F := F) c (.rsS s))
    ∗ (pend (F := F) c (.rsR s) ∗ tok (F := F) (nxt c) (.rsR s))) ⊢ _
  iintro ⟨H1, H2, ⟨H3, H4⟩, H5, H6⟩
  isplitl [H1 H5]
  · isplitl [H1]; · iexact H1
    iexact H5
  isplitl [H2]; · iexact H2
  isplitl [H3]; · iexact H3
  isplitl [H4]; · iexact H4
  iexact H6

/-- The slots as the loop leaves them. -/
theorem slots_end : (bigSep Finset.univ fun s : Fin 7 => slotSt m c 8 s)
    ⊢ iprop((rL c ↦{fullShare} rcvF m c) ∗ (bigSep Finset.univ fun s : Fin 7 => past (F := F) c (.rsS s)) ∗ bigSep Finset.univ fun s : Fin 7 => past (F := F) c (.rsR s)) := by
  refine (bigSep_mono (Ψ := fun s : Fin 7 => iprop(rPt m c s.val ∗ past (F := F) c (.rsS s) ∗ past (F := F) c (.rsR s))) fun s _ => ?_).trans ?_
  · unfold slotSt
    rw [rcvSt_past m c (by omega), sndSt_past m c (by omega)]
    show iprop((rPt m c s.val ∗ past (F := F) c (.rsR s)) ∗ past (F := F) c (.rsS s)) ⊢ iprop(rPt m c s.val ∗ past (F := F) c (.rsS s) ∗ past (F := F) c (.rsR s))
    iintro ⟨⟨H1, H2⟩, H3⟩
    isplitl [H1]; · iexact H1
    isplitl [H3]; · iexact H3
    iexact H2
  rw [bigSep_sep', bigSep_sep']
  exact sep_mono_left (r_whole m c)

/-- All transfer cells close. -/
theorem close_all : iprop(env m K ιw ∗ bigSep Finset.univ fun k : CK => past (F := F) c k)
    ⊢ |={Set.univ}=> bigSep Finset.univ fun k : CK => (semVal (cellAt c (some k)) 0 : sProp 𝕄) :=
  (bigSep_with_persistent (R := env m K ιw) (Ψ := fun k : CK => iprop(|={Set.univ}=> semVal (cellAt c (some k)) 0)) fun k _ => close_x m K ιw c k).trans (bigSep_fupd _ _)

/-- The loop. -/
theorem loop_wp (v2 : BitVec 32) {α : Type} {Q : α → sProp 𝕄} (kk : PUnit → Prog (TpuEff nD τ sig (Elt F) Λ₀ .tc) α) :
    iprop(env m K ιw ∗ inv m c 0) ⊢ iprop((inv m c 8 -∗ WP c (kk ⟨⟩) Q)
      -∗ WP c (Scf.Loop.for k0_t1_loop k0_t1_ok ⟨⟩ (k0_t1_body xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10 c v2) >>= kk) Q) := by
  iintro ⟨#He, Hi⟩ Hk
  unfold Scf.Loop.for
  iapply (Scf.wp_for_bind frame (wpE (defs₀ (F := F)) 𝒱₀ (c : Thread nD τ) none) Set.univ k0_t1_loop.lb k0_t1_loop.ub k0_t1_loop.st k0_t1_ok ⟨⟩ _
    (fun k (_ : PUnit) => iprop(env m K ιw ∗ inv m c k)) (fun k _ => ?_)) $$ [Hi]
  · iintro ⟨#He, Hi⟩
    iapply (wp_frame_l frame (wpE (defs₀ (F := F)) 𝒱₀ (c : Thread nD τ) none) Set.univ (R := env m K ιw) (Q := fun _ => inv m c (k.val + 1)))
    isplitl []; · iexact He
    iapply (trip m K ιw c k v2)
    isplitl []; · iexact He
    iexact Hi
  · isplitl []; · iexact He
    iexact Hi
  iintro %_ ⟨-, Hi⟩
  iapply Hk
  iapply (Entails.of_eq (congrArg (inv m c) trips_eq)) $$ Hi

set_option maxHeartbeats 1600000 in
/-- The kernel's body, whole. -/
theorem body_wp {Q : PUnit → sProp 𝕄} :
    iprop(env m K ιw ∗ share (F := F) c ∗ (∃ W, owes (c : Thread nD τ) (O₀ c) W) ∗ scratch (F := F) c ∗ stX m c ∗ stWq m c ∗ stWo m c ∗ stWk m c ∗ stWv m c ∗ oAny (F := F) c)
      ⊢ iprop((bodyEnd m c -∗ Q ⟨⟩) -∗ WP c (cc0_body xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10) Q) := by
  rw [cc0_body_eq_skeleton]
  unfold cc0_body_skel share scratch
  rw [bigSep_CK]
  dsimp only [kRes]
  simp only [Prog.lift, Prog.bind_op, Prog.bind_ret, Prog.pure_eq_ret, Prog.bind_assoc]
  iintro ⟨#He, ⟨⟨⟨⟨⟨at_arS0, tk_arS0⟩, ⟨at_arS1, tk_arS1⟩, ⟨at_arS2, tk_arS2⟩, ⟨at_arS3, tk_arS3⟩⟩, ⟨pd_arR0, tr_arR0⟩, ⟨pd_arR1, tr_arR1⟩, ⟨pd_arR2, tr_arR2⟩, ⟨pd_arR3, tr_arR3⟩⟩, ⟨⟨⟨at_alS0, tk_alS0⟩, ⟨at_alS1, tk_alS1⟩, ⟨at_alS2, tk_alS2⟩⟩, ⟨pd_alR0, tr_alR0⟩, ⟨pd_alR1, tr_alR1⟩, ⟨pd_alR2, tr_alR2⟩⟩, HrsS, HrsR⟩, HbP, HbN, HbC, HbA⟩, HO, ⟨⟨%fx, Hx⟩, ⟨%fk, HK⟩, ⟨%fv, HV⟩, ⟨%fr, Hr⟩, Hs⟩, HX, HWq, HWo, HWk, HWv, Hout⟩ Hk
  ihave #Hwm := (env_wm m K ιw) $$ He
  ihave Hx := (x_deal c fx) $$ Hx
  icases Hx with ⟨own, HxL, HxR⟩
  imod (r_deal m ιw c fr) $$ [Hr] with ⟨HrA, HrR⟩
  · isplitl []; · iexact Hwm
    iexact Hr
  ihave HK := (kAt_intro m c fk) $$ HK
  ihave HV := (vAt_intro m c fv) $$ HV
  iapply (part19_wp m K ιw c (iprop(atPos ER (cellAt c none) 1 ∅ 0 ∗ bigSep Finset.univ fun t : Fin 7 => rWm m (nxt c) t.val qA ∅)) _) $$ [HO HbP HbN HbC HbA HxL HxR HrA HX own at_arS0 tk_arS0 tr_arR0 at_alS0 tk_alS0 tr_alR0 HWk HK HWv HV pd_arR0 pd_alR0 at_arS1 tk_arS1 tr_arR1 at_alS1 tk_alS1 tr_alR1 pd_arR1 pd_alR1 at_arS2 tk_arS2 tr_arR2 at_alS2 tk_alS2 tr_alR2 pd_arR2 pd_alR2 at_arS3 tk_arS3 tr_arR3 pd_arR3]
  · isplitl []; · iexact He
    isplitl [HO HbP HbN HbC HbA HxL HxR HrA]
    · unfold barPre barR
      isplitl [HO]; · iexact HO
      isplitl [HbP]; · iexact HbP
      isplitl [HbN]; · iexact HbN
      isplitl [HbC]; · iexact HbC
      isplitl [HbA]; · iexact HbA
      isplitl [HxR HrA]
      · isplitl [HxR]; · iexact HxR
        iexact HrA
      iexact HxL
    isplitl [HX own at_arS0 tk_arS0 tr_arR0 at_alS0 tk_alS0 tr_alR0 HWk HK HWv HV pd_arR0 pd_alR0 at_arS1 tk_arS1 tr_arR1 at_alS1 tk_alS1 tr_alR1 pd_arR1 pd_alR1 at_arS2 tk_arS2 tr_arR2 at_alS2 tk_alS2 tr_alR2 pd_arR2 pd_alR2 at_arS3 tk_arS3 tr_arR3 pd_arR3]
    · unfold gatherPre
      isplitl [HX]; · iexact HX
      isplitl [own]; · iexact own
      isplitl [at_arS0]; · iexact at_arS0
      isplitl [tk_arS0]; · iexact tk_arS0
      isplitl [tr_arR0]; · iexact tr_arR0
      isplitl [at_alS0]; · iexact at_alS0
      isplitl [tk_alS0]; · iexact tk_alS0
      isplitl [tr_alR0]; · iexact tr_alR0
      isplitl [HWk]; · iexact HWk
      isplitl [HK]; · iexact HK
      isplitl [HWv]; · iexact HWv
      isplitl [HV]; · iexact HV
      isplitl [pd_arR0]; · iexact pd_arR0
      isplitl [pd_alR0]; · iexact pd_alR0
      isplitl [at_arS1]; · iexact at_arS1
      isplitl [tk_arS1]; · iexact tk_arS1
      isplitl [tr_arR1]; · iexact tr_arR1
      isplitl [at_alS1]; · iexact at_alS1
      isplitl [tk_alS1]; · iexact tk_alS1
      isplitl [tr_alR1]; · iexact tr_alR1
      isplitl [pd_arR1]; · iexact pd_arR1
      isplitl [pd_alR1]; · iexact pd_alR1
      isplitl [at_arS2]; · iexact at_arS2
      isplitl [tk_arS2]; · iexact tk_arS2
      isplitl [tr_arR2]; · iexact tr_arR2
      isplitl [at_alS2]; · iexact at_alS2
      isplitl [tk_alS2]; · iexact tk_alS2
      isplitl [tr_alR2]; · iexact tr_alR2
      isplitl [pd_arR2]; · iexact pd_arR2
      isplitl [pd_alR2]; · iexact pd_alR2
      isplitl [at_arS3]; · iexact at_arS3
      isplitl [tk_arS3]; · iexact tk_arS3
      isplitl [tr_arR3]; · iexact tr_arR3
      iexact pd_arR3
    iintro H
    iapply (lent m c) $$ H
  iintro %v2 %_ %_ %_ ⟨Hg, HbA, HrN⟩
  unfold gatherPost
  icases Hg with ⟨HX, x0C, x0A, ps_arS0, ps_arR0, x7B, x0B, ps_alS0, ps_alR0, x1A, x7C, x1C, x7A, ps_arS1, ps_arR1, x6B, x1B, ps_alS1, ps_alR1, x2A, x6C, x2C, x6A, ps_arS2, ps_arR2, x5B, x2B, ps_alS2, ps_alR2, x3A, x3B, x5C, x3C, HWk, HK, HWv, HV, HO, x5A, ps_arS3, ps_arR3, x4A, x4B, x4C⟩
  iapply (load_vany m c _) $$ HV
  iintro %_ HV
  iapply (store_v m c _ (sl_lt c 4) (off8_4 c) rfl _) $$ HV
  iintro HV
  iapply (loop_wp m K ιw c v2 _) $$ [x0A x0B x0C x1A x1B x1C x2A x2B x2C x3A x3B x3C x4A x4B x4C x5A x5B x5C x6A x6B x6C x7A x7B x7C HK HV HWq HWo HrR HrN HrsS HrsR Hs HO Hout]
  · isplitl []; · iexact He
    unfold inv heads
    isplitl [x0A x0B x0C x1A x1B x1C x2A x2B x2C x3A x3B x3C x4A x4B x4C x5A x5B x5C x6A x6B x6C x7A x7B x7C HK HV HWq HWo]
    · isplitl [x0A x0B x0C x1A x1B x1C x2A x2B x2C x3A x3B x3C x4A x4B x4C x5A x5B x5C x6A x6B x6C x7A x7B x7C]
      · iapply (x_whole m c) $$ [x0A x0B x0C x1A x1B x1C x2A x2B x2C x3A x3B x3C x4A x4B x4C x5A x5B x5C x6A x6B x6C x7A x7B x7C]
        isplitl [x0A x0B x0C]
        · iapply (join3 m c (sl c 0)) $$ [x0A x0B x0C]
          isplitl [x0A]; · iexact x0A
          isplitl [x0B]; · iexact x0B
          iexact x0C
        isplitl [x1A x1B x1C]
        · iapply (join3 m c (sl c 1)) $$ [x1A x1B x1C]
          isplitl [x1A]; · iexact x1A
          isplitl [x1B]; · iexact x1B
          iexact x1C
        isplitl [x2A x2B x2C]
        · iapply (join3 m c (sl c 2)) $$ [x2A x2B x2C]
          isplitl [x2A]; · iexact x2A
          isplitl [x2B]; · iexact x2B
          iexact x2C
        isplitl [x3A x3B x3C]
        · iapply (join3 m c (sl c 3)) $$ [x3A x3B x3C]
          isplitl [x3A]; · iexact x3A
          isplitl [x3B]; · iexact x3B
          iexact x3C
        isplitl [x4A x4B x4C]
        · iapply (join3 m c (sl c 4)) $$ [x4A x4B x4C]
          isplitl [x4A]; · iexact x4A
          isplitl [x4B]; · iexact x4B
          iexact x4C
        isplitl [x5A x5B x5C]
        · iapply (join3 m c (sl c 5)) $$ [x5A x5B x5C]
          isplitl [x5A]; · iexact x5A
          isplitl [x5B]; · iexact x5B
          iexact x5C
        isplitl [x6A x6B x6C]
        · iapply (join3 m c (sl c 6)) $$ [x6A x6B x6C]
          isplitl [x6A]; · iexact x6A
          isplitl [x6B]; · iexact x6B
          iexact x6C
        iapply (join3 m c (sl c 7)) $$ [x7A x7B x7C]
        isplitl [x7A]; · iexact x7A
        isplitl [x7B]; · iexact x7B
        iexact x7C
      isplitl [HK]; · unfold kW; iapply (kAt_full m c _ fun s hs => all_slabs c hs) $$ HK
      isplitl [HV]; · unfold vW; iapply (vAt_full m c _ fun s hs => all_slabs c hs) $$ HV
      isplitl [HWq]; · iexact HWq
      iexact HWo
    isplitl [HrR HrN HrsS HrsR]
    · iapply (slots_start m c) $$ [HrR HrN HrsS HrsR]
      isplitl [HrR]; · iexact HrR
      isplitl [HrN]; · iexact HrN
      isplitl [HrsS]; · iexact HrsS
      iexact HrsR
    isplitl [Hs]
    · iapply (Entails.of_eq (show bufSt (F := F) c 0 = sAny c from if_pos (Or.inl rfl)).symm)
      iapply (Entails.of_eq (s_view (F := F) c)) $$ Hs
    isplitl [HO]; · iexact HO
    iapply (Entails.of_eq (show outSt m c 0 = oAny c from if_neg (by decide)).symm) $$ Hout
  unfold inv heads
  iintro ⟨⟨HxW, HkW, HvW, HWq, HWo⟩, Hsl, Hb, HO, Hout⟩
  ihave Hsl := (slots_end m c) $$ Hsl
  icases Hsl with ⟨Hr, HpS, HpR⟩
  imod (close_all m K ιw c) $$ [HpS HpR ps_arS0 ps_arS1 ps_arS2 ps_arS3 ps_arR0 ps_arR1 ps_arR2 ps_arR3 ps_alS0 ps_alS1 ps_alS2 ps_alR0 ps_alR1 ps_alR2] with Hz
  · isplitl []; · iexact He
    rw [bigSep_CK]
    isplitl [ps_arS0 ps_arS1 ps_arS2 ps_arS3 ps_arR0 ps_arR1 ps_arR2 ps_arR3]
    · isplitl [ps_arS0 ps_arS1 ps_arS2 ps_arS3]
      · isplitl [ps_arS0]; · iexact ps_arS0
        isplitl [ps_arS1]; · iexact ps_arS1
        isplitl [ps_arS2]; · iexact ps_arS2
        iexact ps_arS3
      isplitl [ps_arR0]; · iexact ps_arR0
      isplitl [ps_arR1]; · iexact ps_arR1
      isplitl [ps_arR2]; · iexact ps_arR2
      iexact ps_arR3
    isplitl [ps_alS0 ps_alS1 ps_alS2 ps_alR0 ps_alR1 ps_alR2]
    · isplitl [ps_alS0 ps_alS1 ps_alS2]
      · isplitl [ps_alS0]; · iexact ps_alS0
        isplitl [ps_alS1]; · iexact ps_alS1
        iexact ps_alS2
      isplitl [ps_alR0]; · iexact ps_alR0
      isplitl [ps_alR1]; · iexact ps_alR1
      iexact ps_alR2
    isplitl [HpS]; · iexact HpS
    iexact HpR
  imod (close_bar m K ιw c) $$ [HbA] with Hzb
  · isplitl []; · iexact He
    iexact HbA
  rw [wp_ret]
  imodintro
  iapply Hk
  unfold bodyEnd scratch xW kW vW
  isplitl [HxW HkW HvW Hr Hb]
  · isplitl [HxW]; · iexists _; iexact HxW
    isplitl [HkW]; · iexists _; iexact HkW
    isplitl [HvW]; · iexists _; iexact HvW
    isplitl [Hr]; · iexists _; iexact Hr
    iapply (Entails.of_eq (s_view (F := F) c).symm)
    iapply (Entails.of_eq (show bufSt (F := F) c 8 = sAny c from if_pos (Or.inr rfl))) $$ Hb
  isplitl [HX]; · iexact HX
  isplitl [HWq]; · iexact HWq
  isplitl [HWo]; · iexact HWo
  isplitl [HWk]; · iexact HWk
  isplitl [HWv]; · iexact HWv
  isplitl [Hout]; · iapply (Entails.of_eq (show outSt m c 8 = oPt m c from if_pos rfl)) $$ Hout
  isplitl [HO]; · iexact HO
  isplitl [Hz]; · iexact Hz
  iexact Hzb

end Cert.RingIdeal

end
-- ==== Proof.RingIdeal.Oblig.lean ====
/- The body as the pipeline calls it: its one point, the staged blocks before and after. -/
module

public import proofs.«01_k».proof.Proof.RingIdeal.Body
public import proofs.«01_k».proof.Proof.Gen.KernelIdeal.Points

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

variable (ρ : Dev nD → PrngReg)

def s₀ : MemSt nD τ sig (Elt F) := ⟨m, fun _ => 0, ρ⟩

/-- What the launch gives device `c`'s body: at some names, what every device knows, and its share of the protocol. -/
def start : sProp 𝕄 := iprop(∃ K ιw, env m K ιw ∗ share (F := F) c)
def Φ₀ : sProp 𝕄 := iprop(start m c ∗ scratch (F := F) c)
/-- What the body gives back: the scratch buffers, every counter at zero. -/
def Φ₁ : sProp 𝕄 := iprop(scratch (F := F) c ∗ (bigSep Finset.univ fun k : CK => (semVal (cellAt c (some k)) 0 : sProp 𝕄)) ∗ semVal (cellAt c none) 0)

def dats (_ : Fin 1) (c : Dev nD) : Dat τ (Elt F) Unit ℕ (UU F) ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => wkst m c
    | ⟨4, _⟩ => wvst m c
    | ⟨5, _⟩ => outF m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (b : Ref sig .tc) (X : b.ty.Contents (Elt F)) :
    (owns (Ix := Unit) (Name := ℕ) (U := UU F) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost : sProp 𝕄 :=
  iprop(Φ₁ (F := F) c ∗ (dats m ρ 0 c).owesAt () t0_0.succ
    ∗ stg c cc0_stg0_0 (xst m c)
    ∗ stg c cc0_stg1_0 (wqst m c)
    ∗ stg c cc0_stg2_0 (wost m c)
    ∗ stg c cc0_stg3_0 (wkst m c)
    ∗ stg c cc0_stg4_0 (wvst m c)
    ∗ stg c cc0_stg5_0 (outF m c))

set_option maxHeartbeats 800000 in
/-- The body from what the pipeline hands it to what the pipeline takes back. -/
theorem sound_body : bodyPre m c ρ ⊢ WP c (cc0_body xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10) (fun _ => bodyPost m c ρ) := by
  unfold bodyPre Φ₀ start
  iintro ⟨⟨⟨%K, %ιw, #He, Hsh⟩, Hscr⟩, HO, ⟨%d0, %g0, %hg0, Hx⟩, ⟨%d1, %g1, %hg1, Hq⟩, ⟨%d2, %g2, %hg2, Ho⟩, ⟨%d3, %g3, %hg3, Hk⟩, ⟨%d4, %g4, %hg4, Hv⟩, ⟨%d5, %g5, %hg5, Hout⟩⟩
  have h0 : g0 = xst m c := by rw [hg0]; unfold Dat.before; rw [if_pos (fetch0_0 t0_0)]; rfl
  subst h0
  have h1 : g1 = wqst m c := by rw [hg1]; unfold Dat.before; rw [if_pos (fetch0_1 t0_0)]; rfl
  subst h1
  have h2 : g2 = wost m c := by rw [hg2]; unfold Dat.before; rw [if_pos (fetch0_2 t0_0)]; rfl
  subst h2
  have h3 : g3 = wkst m c := by rw [hg3]; unfold Dat.before; rw [if_pos (fetch0_3 t0_0)]; rfl
  subst h3
  have h4 : g4 = wvst m c := by rw [hg4]; unfold Dat.before; rw [if_pos (fetch0_4 t0_0)]; rfl
  subst h4
  unfold Dat.owesAt Pipeline.owesWithin
  icases HO with ⟨%W, %hW, HO⟩
  rw [show (dats m ρ 0 c).owed t0_0.castSucc = O₀ c from rfl]
  iapply (body_wp m K ιw c) $$ [Hsh Hscr HO Hx Hq Ho Hk Hv Hout]
  · isplitl []; · iexact He
    isplitl [Hsh]; · iexact Hsh
    isplitl [HO]; · iexists W; iexact HO
    isplitl [Hscr]; · iexact Hscr
    unfold stX stWq stWo stWk stWv oAny
    isplitl [Hx]; · iexact Hx
    isplitl [Hq]; · iexact Hq
    isplitl [Ho]; · iexact Ho
    isplitl [Hk]; · iexact Hk
    isplitl [Hv]; · iexact Hv
    iexists g5; iexact Hout
  unfold bodyEnd stX stWq stWo stWk stWv oPt Ow
  iintro ⟨Hscr, Hx, Hq, Ho, Hk, Hv, Hout, ⟨%W', HO⟩, Hz, Hzb⟩
  unfold bodyPost Φ₁ Dat.owesAt Pipeline.owesWithin
  rw [show (dats m ρ 0 c).owed t0_0.succ = 0 from rfl]
  isplitl [Hscr Hz Hzb]
  · isplitl [Hscr]; · iexact Hscr
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Ho]
  · iexists _; isplitr; · (ipureintro; rfl)
    iexact Ho
  isplitl [Hk]
  · iexists _; isplitr; · (ipureintro; rfl)
    iexact Hk
  isplitl [Hv]
  · iexists _; isplitr; · (ipureintro; rfl)
    iexact Hv
  iexists _; isplitr; · (ipureintro; rfl)
  iexact Hout

set_option maxRecDepth 8000 in
/-- The pipeline's obligation for the body. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show bodyPre m c ρ ⊢ WP c (cc0_body xM (Memref.isWhole_whole _) wqM (Memref.isWhole_whole _) woM (Memref.isWhole_whole _) wkM (Memref.isWhole_whole _) wvM (Memref.isWhole_whole _) oM (Memref.isWhole_whole _) gM (Memref.isWhole_whole _) kM (Memref.isWhole_whole _) vM (Memref.isWhole_whole _) rM (Memref.isWhole_whole _) sM (Memref.isWhole_whole _) cc0_scratch5 cc0_scratch6 cc0_scratch7 cc0_scratch8 cc0_scratch9 cc0_scratch10) (fun _ => bodyPost m c ρ)
  exact sound_body m c ρ

end Cert.RingIdeal

end
-- ==== Proof.RingIdeal.Launch.lean ====
/- The launch: the protocol's ghost state is made and dealt, the devices are started, and what every run leaves. -/
module

public import proofs.«01_k».proof.Proof.RingIdeal.Oblig
public import Idealize.ShloMosaic.Lib.Pipeline.CollectiveSegs

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

variable (ρ : Dev nD → PrngReg)

/-! ## The kernel's own semaphores and the ring's ghost state -/

/-- The semaphores the kernel declares. -/
def osem (k : CK) : SemLoc sig := .dma (semOf k)

theorem ownSemFacts : Pipeline.OwnSemFacts cfg0.spec osem := by decide +kernel

theorem share_eq (c : Dev nD) (w : Fin cfg0.W) : (dats m ρ 0 c).share w = fullShare := by unfold Dat.share; split <;> rfl

theorem bigSep_opt (Φ : Option CK → sProp 𝕄) : bigSep Finset.univ Φ = iprop(Φ none ∗ bigSep Finset.univ fun k : CK => Φ (some k)) := by
  have h : (Finset.univ.erase none : Finset (Option CK)) = Finset.univ.map ⟨some, Option.some_injective _⟩ := by
    ext k; cases k <;> simp
  rw [bigSep_univ_at Φ none, h, bigSep_map]
  rfl

def kcell (ck : CI) : GSem nD τ sig := cellAt ck.1 ck.2
theorem kcell_injective : Function.Injective kcell := by
  rintro ⟨c, k⟩ ⟨c', k'⟩ h
  obtain ⟨h1, h2⟩ := cellAt_inj h
  cases h1; cases h2; rfl
def ringCells : Finset (GSem nD τ sig) := Finset.univ.map ⟨kcell, kcell_injective⟩

/-- The duty tokens of every cell, by device: one of each transfer cell, two of the barrier's. -/
def tokOf (ck : Dev nD × (CK ⊕ Bool)) : GSem nD τ sig × ℕ × Bool := match ck.2 with
  | .inl k => (cellAt ck.1 (some k), 0, false)
  | .inr b => (cellAt ck.1 none, 0, b)
theorem tokOf_injective : Function.Injective tokOf := by
  rintro ⟨c, k⟩ ⟨c', k'⟩ h
  rcases k with k | b <;> rcases k' with k' | b'
  · obtain ⟨h1, h2⟩ := cellAt_inj (congrArg Prod.fst h)
    cases h1; cases h2; rfl
  · obtain ⟨h1, h2⟩ := cellAt_inj (congrArg Prod.fst h)
    cases h2
  · obtain ⟨h1, h2⟩ := cellAt_inj (congrArg Prod.fst h)
    cases h2
  · obtain ⟨h1, -⟩ := cellAt_inj (congrArg Prod.fst h)
    have h3 : b = b' := congrArg (fun x : GSem nD τ sig × ℕ × Bool => x.2.2) h
    cases h1; cases h3; rfl
def ringToks : Finset (GSem nD τ sig × ℕ × Bool) := Finset.univ.map ⟨tokOf, tokOf_injective⟩

/-- The ghost state at launch: the pipeline's, the ring's, write mode's. -/
def u₀ : UU F :=
  (initOf (Pipeline.cells cfgs cellOf_inj) (Pipeline.launchToks cfgs cellOf_inj), (initOf ringCells ringToks, wm₀ nD τ sig (Elt F)))

/-- The duty tokens of device `c`'s own cells. -/
def toks : sProp 𝕄 :=
  iprop((bigSep Finset.univ fun k : CK => tok (F := F) c k) ∗ dutyTok ER (cellAt c none) 0 false ∗ dutyTok ER (cellAt c none) 0 true)

def G : sProp 𝕄 :=
  iprop((bigSep Finset.univ fun k : Option CK => roundState ER (Rd m) (cellAt c k) 0)
    ∗ (bigSep Finset.univ fun k : Option CK => iprop(atPos ER (cellAt c k) 0 ∅ 0 ∗ reached ER (cellAt c k) 0)) ∗ toks (F := F) c
    ∗ ∃ ιw : ℕ, wmInv (wmE (F := F)) ιw)

include m ρ in
theorem fund_wm : (own (((Emb.inr : Emb (UW F) (UB × UW F)).trans embR) (wm₀ nD τ sig (Elt F))) : sProp 𝕄) ⊢ |={Set.univ}=> ∃ ιw : ℕ, wmInv (wmE (F := F)) ιw :=
  (show (own (((Emb.inr : Emb (UW F) (UB × UW F)).trans embR) (wm₀ nD τ sig (Elt F))) : sProp 𝕄) ⊢ ownU (wmE (F := F) (wm₀ nD τ sig (Elt F))) from Entails.of_eq rfl).trans
    ((wmInv_alloc (emb := wmE (F := F)) (s₀ m ρ) ∅ (E := Set.univ)).trans (BI.fupd_mono (exists_mono fun _ => and_elim_r)))

theorem fund_ring : (own (ER (F := F) (initOf ringCells ringToks)) : sProp 𝕄)
    ⊢ |==> bigSep Finset.univ fun c : Dev nD => iprop((bigSep Finset.univ fun k : Option CK => roundState ER (Rd m) (cellAt c k) 0)
    ∗ (bigSep Finset.univ fun k : Option CK => iprop(atPos ER (cellAt c k) 0 ∅ 0 ∗ reached ER (cellAt c k) 0)) ∗ toks (F := F) c) := by
  have hX (Φ : GSem nD τ sig → sProp 𝕄) : bigSep ringCells Φ = bigSep Finset.univ fun c : Dev nD => bigSep Finset.univ fun k : Option CK => Φ (cellAt c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    rw [bigSep_univ_sum]
    unfold toks
    rw [bigSep_univ_eq_bigSepL [false, true] (by decide) (by decide) (Φ := fun b : Bool => _), bigSepL_cons_cons, bigSepL_singleton]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  simp only [bigSep_sep']
  isplitl [Hst']; · iexact Hst'
  isplitl [Hat' Hr']
  · isplitl [Hat'] <;> iassumption
  iexact Htok'

/-! ## The cells' invariants, shared among the devices -/

theorem unscopedSems0_eq (c : Dev nD) : (unscopedSems0 c : sProp 𝕄) = semVal (cellAt c none) 0 := by
  unfold unscopedSems0; rw [bigSep_eq_bigSepL_of_eq [SemLoc.reg barS] (by decide +kernel) (by decide)]; rfl

abbrev ownZ (c : Dev nD) : sProp 𝕄 := Pipeline.ownSems0 (Ix := Unit) (Name := ℕ) (U := UU F) (Lvl := ℕ) (Val := Elt F) (τ := τ) osem c

theorem ownSems0_eq (c : Dev nD) : ownZ (F := F) c = bigSep Finset.univ fun k : CK => (semVal (cellAt c (some k)) 0 : sProp 𝕄) := rfl

theorem core_alloc (c : Dev nD) :
    iprop(ownZ (F := F) c ∗ unscopedSems0 c ∗ G m c)
      ⊢ |={Set.univ}=> iprop((bigSep Finset.univ fun k => iprop(∃ κ : ℕ, cellInv ER (Rd m) κ (cellAt c k)))
          ∗ (bigSep Finset.univ fun k => iprop(atPos ER (cellAt c k) 0 ∅ 0 ∗ reached ER (cellAt c k) 0)) ∗ toks (F := F) c
          ∗ ∃ ιw : ℕ, wmInv (wmE (F := F)) ιw) := by
  unfold G
  rw [ownSems0_eq, unscopedSems0_eq]
  iintro ⟨Hos, Hus, Hst, Hat, Htok, Hw⟩
  ihave Hv := (Entails.of_eq (bigSep_opt (F := F) fun k => semVal (cellAt c k) 0).symm) $$ [Hos Hus]
  · isplitl [Hus] <;> iassumption
  imod (show iprop((bigSep Finset.univ fun k : Option CK => semVal (cellAt c k) 0) ∗ bigSep Finset.univ fun k : Option CK => roundState ER (Rd m) (cellAt c k) 0)
      ⊢ (|={Set.univ}=> bigSep Finset.univ fun k => iprop(∃ κ : ℕ, cellInv ER (Rd m) κ (cellAt c k)) : sProp 𝕄) from by
        rw [← bigSep_sep']
        exact (bigSep_mono fun k _ => (Rounds.body_intro ER (Rd m) (cellAt c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- The tokens of the duties device `c` pays. -/
def payToks : sProp 𝕄 :=
  iprop((bigSep Finset.univ fun k : CK => tok (F := F) (peer c k) k) ∗ dutyTok ER (cellAt (nxt c) none) 0 false ∗ dutyTok ER (cellAt (prv c) none) 0 true)

/-- What stays with device `c` of the ghost state: its positions, and the tokens of the duties it pays. -/
def linear : sProp 𝕄 := iprop((bigSep Finset.univ fun k : Option CK => atPos ER (cellAt c k) 0 ∅ 0) ∗ payToks (F := F) c)

def G' : sProp 𝕄 := iprop(∃ (K : CI → ℕ) (ιw : ℕ), records m K ∗ wmInv (wmE (F := F)) ιw ∗ linear (F := F) c)

/-- Each transfer cell's token goes to the device that pays it. -/
def peerAll : Dev nD × CK ≃ Dev nD × CK where
  toFun ck := (peerE ck.2 ck.1, ck.2)
  invFun ck := ((peerE ck.2).symm ck.1, ck.2)
  left_inv ck := by simp
  right_inv ck := by simp

theorem toks_around : (bigSep Finset.univ fun c : Dev nD => toks (F := F) c) ⊢ bigSep Finset.univ fun c : Dev nD => payToks (F := F) c := by
  have h : (bigSep Finset.univ fun c : Dev nD => bigSep Finset.univ fun k : CK => tok (F := F) c k)
      = bigSep Finset.univ fun c : Dev nD => bigSep Finset.univ fun k : CK => tok (F := F) (peer c k) k := by
    rw [← bigSep_univ_prod (fun ck : Dev nD × CK => tok (F := F) ck.1 ck.2), bigSep_univ_equiv peerAll, bigSep_univ_prod]
    refine bigSep_congr fun c _ => bigSep_congr fun k _ => ?_
    show tok (F := F) (peerE k c) k = _
    rw [peerE_apply]
  unfold toks payToks
  rw [bigSep_sep', bigSep_sep', bigSep_sep', bigSep_sep', h,
    bigSep_univ_equiv ring (fun c : Dev nD => (dutyTok ER (cellAt c none) 0 false : sProp 𝕄)),
    bigSep_univ_equiv ring.symm (fun c : Dev nD => (dutyTok ER (cellAt c none) 0 true : sProp 𝕄))]
  exact BIBase.Entails.rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : CI → ℕ) (ιw : ℕ) (c : Dev nD) :
    iprop((records m K ∗ wmInv (wmE (F := F)) ιw) ∗ linear (F := F) c) ⊢ G' m c := by
  unfold G'
  iintro ⟨⟨HR, HW⟩, HL⟩
  iexists K, ιw
  isplitl [HR]; · iexact HR
  isplitl [HW] <;> iassumption

theorem regroup :
    (bigSep Finset.univ fun c : Dev nD => iprop((bigSep Finset.univ fun k => iprop(∃ κ : ℕ, cellInv ER (Rd m) κ (cellAt c k)))
          ∗ (bigSep Finset.univ fun k => iprop(atPos ER (cellAt c k) 0 ∅ 0 ∗ reached ER (cellAt c k) 0)) ∗ toks (F := F) c
          ∗ ∃ ιw : ℕ, wmInv (wmE (F := F)) ιw))
      ⊢ bigSep Finset.univ (G' m) := by
  rw [bigSep_sep', bigSep_sep', bigSep_sep', ← bigSep_univ_prod (fun ck : CI => iprop(∃ κ : ℕ, cellInv ER (Rd m) κ (cellAt ck.1 ck.2))),
    bigSep_congr (s := Finset.univ) (fun (c : Dev nD) _ => bigSep_sep' Finset.univ (fun k : Option CK => (atPos ER (cellAt c k) 0 ∅ 0 : sProp 𝕄)) (fun k => reached ER (cellAt c k) 0)),
    bigSep_sep', ← bigSep_univ_prod (fun ck : CI => (reached ER (cellAt ck.1 ck.2) 0 : sProp 𝕄))]
  iintro ⟨HI, ⟨Hat, #HR⟩, Htok, HW⟩
  ihave HK := (BI.bigSep_exists_pi Finset.univ (fun (ck : CI) (κ : ℕ) => (cellInv ER (Rd m) κ (cellAt ck.1 ck.2) : sProp 𝕄))) $$ HI
  icases HK with ⟨%K, #HI⟩
  ihave HW := (show (bigSep Finset.univ fun _ : Dev nD => (iprop(∃ ιw : ℕ, wmInv (wmE (F := F)) ιw) : sProp 𝕄)) ⊢ iprop(∃ ιw : ℕ, wmInv (wmE (F := F)) ιw)
    from bigSep_elim (Finset.mem_univ (0 : Dev nD))) $$ HW
  icases HW with ⟨%ιw, #HW⟩
  ihave Htk := (toks_around (F := F)) $$ Htok
  iapply (with_persistent (R := iprop(records m K ∗ wmInv (wmE (F := F)) ιw)) fun c _ => ghost_intro m K ιw c)
  isplitr
  · isplitl
    · unfold records
      rw [bigSep_sep']
      isplitl; · iexact HI
      iexact HR
    iexact HW
  · unfold linear
    rw [bigSep_sep']
    isplitl [Hat]; · iexact Hat
    iexact Htk

theorem glob : (bigSep Finset.univ fun c => iprop(ownZ (F := F) c ∗ unscopedSems0 c ∗ G m c))
    ⊢ |={Set.univ}=> bigSep Finset.univ (G' m) :=
  ((bigSep_mono fun c _ => core_alloc m c).trans (bigSep_fupd _ _)).trans (BI.fupd_mono (regroup m))

/-! ## The launch credit -/

theorem ow_at (d c : Dev nD) (k : CK) (n : ℕ) :
    ow d n (cellAt c (some k)) () = ∑ j ∈ Finset.range n, if seqK j = k then (if peer d k = c then N else 0) else 0 := by
  induction n with
  | zero => rfl
  | succ n ih =>
    rw [ow, Pi.add_apply, Finsupp.add_apply, ih, Finset.sum_range_succ, tallyAt_apply]
    refine congrArg _ ?_
    by_cases h : seqK n = k
    · rw [if_pos h, ← h]
      by_cases h2 : peer d (seqK n) = c
      · rw [if_pos h2, h2, if_pos ⟨rfl, rfl⟩]
      · rw [if_neg h2, if_neg fun h' => h2 (cellAt_inj h'.1).1.symm]
    · rw [if_neg h, if_neg fun h' => h (by have := (cellAt_inj h'.1).2; injection this with this; exact this.symm)]

theorem sum_peer (c : Dev nD) (k : CK) : (∑ d : Dev nD, if peer d k = c then N else 0) = N := by
  rw [← Equiv.sum_comp (peerE k).symm, Finset.sum_congr rfl fun d _ => show (if peer ((peerE k).symm d) k = c then N else 0) = if d = c then N else 0 by
    rw [← peerE_apply, Equiv.apply_symm_apply], Finset.sum_ite_eq' Finset.univ c fun _ => N, if_pos (Finset.mem_univ _)]

theorem ow_bar (d c : Dev nD) (n : ℕ) : ow d n (cellAt c none) () = 0 := by
  by_contra h
  obtain ⟨j, -, hj⟩ := ow_pos (Nat.pos_of_ne_zero h)
  cases (cellAt_inj hj).2

theorem owed_x (d c : Dev nD) (k : CK) : O₀ d (cellAt c (some k)) () = ow d 14 (cellAt c (some k)) () := by
  unfold O₀ O₁
  rw [Pi.add_apply, Finsupp.add_apply, Pi.add_apply, Finsupp.add_apply, tallyAt_apply, tallyAt_apply,
    if_neg fun h : cellAt c (some k) = cellAt (nxt d) none ∧ () = () => Option.some_ne_none k (cellAt_inj h.1).2,
    if_neg fun h : cellAt c (some k) = cellAt (prv d) none ∧ () = () => Option.some_ne_none k (cellAt_inj h.1).2, Nat.add_zero]

theorem owed_bar (d c : Dev nD) : O₀ d (cellAt c none) () = (if d = prv c then 1 else 0) + (if d = nxt c then 1 else 0) := by
  unfold O₀ O₁
  rw [Pi.add_apply, Finsupp.add_apply, Pi.add_apply, Finsupp.add_apply, ow_bar, Nat.zero_add, tallyAt_apply, tallyAt_apply]
  congr 1
  · by_cases h : d = prv c
    · subst h; rw [nxt_prv, if_pos ⟨rfl, rfl⟩, if_pos rfl]
    · rw [if_neg h, if_neg fun h' => h (by rw [(cellAt_inj h'.1).1, prv_nxt])]
  · by_cases h : d = nxt c
    · subst h; rw [prv_nxt, if_pos ⟨rfl, rfl⟩, if_pos rfl]
    · rw [if_neg h, if_neg fun h' => h (by rw [(cellAt_inj h'.1).1, nxt_prv])]

theorem launch_bar (c : Dev nD) :
    tallyOn (cellAt c none) (launchCredit (Pipeline.owing O₀) 0 (cellAt c none)) = (tallyAt (cellAt c none) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_x (c : Dev nD) (k : CK) (hk : ((Finset.range 14).filter fun j => seqK j = k).card = 1) :
    tallyOn (cellAt c (some k)) (launchCredit (Pipeline.owing O₀) 0 (cellAt c (some k))) = (tallyAt (cellAt c (some k)) () N : CellTallies nD τ sig Unit) := by
  unfold tallyAt; refine congrArg _ (Finsupp.ext fun u => ?_); cases u
  rw [Pipeline.launchCredit_owing, Finsupp.single_eq_same, Finset.sum_congr rfl fun d _ => (owed_x d c k).trans (ow_at d c k 14), Finset.sum_comm,
    Finset.sum_congr rfl fun j _ => show (∑ d : Dev nD, if seqK j = k then (if peer d k = c then N else 0) else 0) = if seqK j = k then N else 0 by
      by_cases h : seqK j = k
      · simp only [if_pos h]; exact sum_peer c k
      · simp only [if_neg h]; exact Finset.sum_const_zero,
    ← Finset.sum_filter, Finset.sum_const, hk, one_smul]

/-- The launch credit of a transfer cell: a block's on the receiving side. -/
def crd (k : CK) : sProp 𝕄 := match k with
  | .arR _ | .alR _ | .rsR _ => cred (tallyAt (cellAt c (some k)) () N)
  | _ => iprop(emp)

theorem once_ar : ∀ h : Fin 4, ((Finset.range 14).filter fun j => seqK j = .arR h).card = 1 := by decide +kernel
theorem once_al : ∀ h : Fin 3, ((Finset.range 14).filter fun j => seqK j = .alR h).card = 1 := by decide +kernel
theorem once_rs : ∀ t : Fin 7, ((Finset.range 14).filter fun j => seqK j = .rsR t).card = 1 := by decide +kernel

theorem creds (c : Dev nD) : (Pipeline.launchCred O₀ c : sProp 𝕄)
    ⊢ iprop(cred (tallyAt (cellAt c none) () 2) ∗ bigSep Finset.univ fun k : CK => crd (F := F) c k) := by
  unfold Pipeline.launchCred
  refine (bigSep_subset (Finset.subset_univ (Finset.univ.map ⟨cloc, cloc_inj⟩))).trans ?_
  rw [bigSep_map, bigSep_opt]
  refine BIBase.Entails.trans (Q := iprop(cred (tallyOn (cellAt c none) (launchCredit (Pipeline.owing O₀) 0 (cellAt c none)))
    ∗ bigSep Finset.univ fun k : CK => cred (tallyOn (cellAt c (some k)) (launchCredit (Pipeline.owing O₀) 0 (cellAt c (some k)))))) (Entails.of_eq rfl) ?_
  rw [launch_bar]
  refine sep_mono_right (bigSep_mono fun k _ => ?_)
  show (iprop(cred (tallyOn (cellAt c (some k)) (launchCredit (Pipeline.owing O₀) 0 (cellAt c (some k))))) : sProp 𝕄) ⊢ crd (F := F) c k
  rcases k with h | h | h | h | t | t
  · unfold crd; iintro -; iempintro
  · rw [launch_x c _ (once_ar h)]; unfold crd; iintro H; iexact H
  · unfold crd; iintro -; iempintro
  · rw [launch_x c _ (once_al h)]; unfold crd; iintro H; iexact H
  · unfold crd; iintro -; iempintro
  · rw [launch_x c _ (once_rs t)]; unfold crd; iintro H; iexact H

theorem kRes_intro (k : CK) : iprop(atPos ER (cellAt c (some k)) 0 ∅ 0 ∗ tok (F := F) (peer c k) k ∗ crd (F := F) c k) ⊢ kRes (F := F) c k := by
  rcases k with h | h | h | h | t | t
  · unfold kRes crd peer; iintro ⟨H1, H2, -⟩; isplitl [H1] <;> iassumption
  · unfold kRes crd peer pend; iintro ⟨H1, H2, H3⟩; isplitl [H1 H3]
    · isplitl [H3] <;> iassumption
    iexact H2
  · unfold kRes crd peer; iintro ⟨H1, H2, -⟩; isplitl [H1] <;> iassumption
  · unfold kRes crd peer pend; iintro ⟨H1, H2, H3⟩; isplitl [H1 H3]
    · isplitl [H3] <;> iassumption
    iexact H2
  · unfold kRes crd peer sRes; iintro ⟨H1, H2, -⟩; isplitl [H1] <;> iassumption
  · unfold kRes crd peer rRes pend; iintro ⟨H1, H2, H3⟩; isplitl [H1 H3]
    · isplitl [H3] <;> iassumption
    iexact H2

/-! ## The launch's side conditions -/

theorem start_of (c : Dev nD) : iprop(levAts L lv ∗ Pipeline.launchCred O₀ c ∗ G' m c) ⊢ start m c := by
  unfold G' linear payToks start env share
  iintro ⟨Hlev, Hcr, ⟨%K, %ιw, HR, HW, Hat, Htok, HtN, HtP⟩⟩
  ihave Hc := (creds (F := F) c) $$ Hcr
  icases Hc with ⟨HcB, Hc⟩
  ihave Hat := (Entails.of_eq (bigSep_opt (F := F) fun k => atPos ER (cellAt c k) 0 ∅ 0)) $$ Hat
  icases Hat with ⟨HaB, Hat⟩
  iexists K, ιw
  isplitl [HR HW Hlev]
  · isplitl [HR]; · iexact HR
    isplitl [HW] <;> iassumption
  isplitl [Hat Htok Hc]
  · iapply ((show iprop((bigSep Finset.univ fun k : CK => (atPos ER (cellAt c (some k)) 0 ∅ 0 : sProp 𝕄)) ∗ (bigSep Finset.univ fun k : CK => tok (F := F) (peer c k) k) ∗ bigSep Finset.univ fun k : CK => crd (F := F) c k)
        ⊢ bigSep Finset.univ fun k : CK => kRes (F := F) c k from by
          rw [← bigSep_sep', ← bigSep_sep']
          exact bigSep_mono fun k _ => kRes_intro c k))
    isplitl [Hat]; · iexact Hat
    isplitl [Htok] <;> iassumption
  isplitl [HtP]; · iexact HtP
  isplitl [HtN]; · iexact HtN
  isplitl [HcB] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  isplitl
  · iapply (start_of m c)
    isplitl [Hlev]; · iexact Hlev
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ ownZ (F := F) c ∗ Pipeline.scopedRest cfg0.spec c) := by
  rw [show (dats m ρ 0 c).Φ (Fin.last cfg0.N) = Φ₁ (F := F) c from rfl, scopedRest0_eq, ownSems0_eq, unscopedSems0_eq]
  unfold Φ₁ scratch
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem deal_wm : (bigSep Finset.univ fun c : Dev nD => iprop((bigSep Finset.univ fun k : Option CK => roundState ER (Rd m) (cellAt c k) 0)
    ∗ (bigSep Finset.univ fun k : Option CK => iprop(atPos ER (cellAt c k) 0 ∅ 0 ∗ reached ER (cellAt c k) 0)) ∗ toks (F := F) c))
    ⊢ iprop((∃ ιw : ℕ, wmInv (wmE (F := F)) ιw) -∗ bigSep Finset.univ (G m)) := by
  iintro H ⟨%ιw, #HW⟩
  iapply (with_persistent (R := wmInv (wmE (F := F)) ιw) (Φ := fun c : Dev nD => iprop((bigSep Finset.univ fun k : Option CK => roundState ER (Rd m) (cellAt c k) 0)
    ∗ (bigSep Finset.univ fun k : Option CK => iprop(atPos ER (cellAt c k) 0 ∅ 0 ∗ reached ER (cellAt c k) 0)) ∗ toks (F := F) c)) fun c _ => show _ ⊢ G m c from by
      unfold G
      iintro ⟨HW, H1, H2, H3⟩
      isplitl [H1]; · iexact H1
      isplitl [H2]; · iexact H2
      isplitl [H3]; · iexact H3
      iexists ιw; iexact HW)
  isplitr; · iexact HW
  iexact H

set_option maxRecDepth 8000 in
/-- From any memory with zero counters, for any float values: every weakly fair execution on the eight devices
    terminates, every array a device's kernel is given ends at the contents computed, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HR, HW⟩
      ihave HR := (show (own ((Emb.inl.trans embR) (initOf ringCells ringToks)) : sProp 𝕄) ⊢ own (ER (F := F) (initOf ringCells ringToks)) from Entails.of_eq rfl) $$ HR
      imod (fund_ring m) $$ HR with HG
      imod (fund_wm m ρ) $$ HW with HW
      imodintro
      isplitl [HP]; · iexact HP
      iapply (deal_wm m) $$ HG
      iexact HW)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingIdeal

end
-- ==== Proof.RingIdeal.Result.lean ====
/- What a run leaves in the arrays. -/
module

public import proofs.«01_k».proof.Proof.RingIdeal.Launch
public import Idealize.ShloMosaic.Lib.Pipeline.ValueKit.Geometry

@[expose] public section

noncomputable section

namespace Cert.RingIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ)

variable (K : CI → ℕ) (ιw : ℕ) (c : Dev nD)

variable (ρ : Dev nD → PrngReg)

/-- The result array after the run holds what the last trip of the loop computes. -/
theorem finalA_out (c : Dev nD) : finalA m ρ c (5 : Fin 6) = outF m c := by
  refine (dats m ρ 0 c).arrAt_eq_of_after_last (5 : Fin 6) t0_0 (by decide +kernel) (outF m c) fun j => ?_
  rfl

/-- Every run leaves each device's result array at the value computed, its arguments as they were, every counter at zero. -/
theorem run_result : θ_run defs (onTc (τ := τ) (main (F := F))) (s₀ m ρ) (fun r =>
    (∀ c : Dev nD, r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c (5 : Fin 6)).trans (finalA_out m ρ c),
      (h.1 c (0 : Fin 6)).trans ((dats (F := F) m ρ 0 c).arrAt_in (0 : Fin 6) rfl _),
      (h.1 c (1 : Fin 6)).trans ((dats (F := F) m ρ 0 c).arrAt_in (1 : Fin 6) rfl _),
      (h.1 c (2 : Fin 6)).trans ((dats (F := F) m ρ 0 c).arrAt_in (2 : Fin 6) rfl _),
      (h.1 c (3 : Fin 6)).trans ((dats (F := F) m ρ 0 c).arrAt_in (3 : Fin 6) rfl _),
      (h.1 c (4 : Fin 6)).trans ((dats (F := F) m ρ 0 c).arrAt_in (4 : Fin 6) rfl _)⟩, h.2⟩)
    (run_main m ρ)

end Cert.RingIdeal

end
-- ==== Proof.Value.Head.lean ====
/- One head of one trip over the extended reals: what each of the kernel's eight head payloads holds at an index. -/
module

public import proofs.«01_k».proof.Proof.Gen.KernelIdeal.Skeleton
public import Idealize.ShloMosaic.Lib.Pointwise

@[expose] public section

noncomputable section

namespace Cert.Attn

open Cert.KernelIdeal Cert.KernelIdeal.Gen Idealize.ShloMosaic

/-- One head's attention without a maximum: the value rows weighted by the exponentials of the scores, divided by
    the sum of the weights. -/
def headOf (q : S512x128.Idx → EReal) (k v : S4096x128.Idx → EReal) (r : Fin 512) (d : Fin 128) : EReal :=
  Ideal.div (∑ j : Fin 4096, Ideal.exp (∑ e : Fin 128, q (ix2 r e) * k (ix2 j e)) * v (ix2 j d))
    (∑ j : Fin 4096, Ideal.exp (∑ e : Fin 128, q (ix2 r e) * k (ix2 j e)))

variable (x : Vec Ideal S1x512x1024 .bf16) (wq : Vec Ideal S1024x1024 .bf16) (k v : Vec Ideal S4096x128 .bf16)
  (f : FVec Ideal S512x1024 .bf16) (q : FVec Ideal S512x128 .bf16) (r : Fin 512) (d : Fin 128) (n : Fin 1024)

/-- The scaled queries of one chunk. -/
theorem pay5_apply : k0_pay5 (F := Ideal) x wq (ix2 r n)
    = (∑ e : Fin 1024, x (ix3 0 r e) * wq (ix2 e n)) * Ideal.ofBits .f32 0x3DB504F3#32 := by
  pointwise [k0_pay5]

/-- The zero accumulator that the printed body hands from part to part. -/
abbrev zacc : FVec Ideal S512x4096 .f32 := constant S512x4096 .f32 0x00000000#32

theorem pay8_apply : k0_pay8 (F := Ideal) q k zacc v (ix2 r d) = headOf q k v r d := by
  pointwise [k0_pay8, headOf]

theorem pay12_apply : k0_pay12 (F := Ideal) q k zacc v (ix2 r d) = headOf q k v r d := by
  pointwise [k0_pay12, headOf]

end Cert.Attn
end
-- ==== Proof.Value.Trip.lean ====
/- One trip of the loop over the extended reals: the eight heads put side by side, multiplied by the output weight,
   and added to what came in. -/
module

public import proofs.«01_k».proof.Proof.Value.Head
public import proofs.«01_k».proof.Proof.RingIdeal.Geom

@[expose] public section

noncomputable section

namespace Cert.Attn

open Cert.KernelIdeal Cert.KernelIdeal.Gen Cert.RingIdeal Idealize.ShloMosaic

/-- The first column of the head that column `n` belongs to, plus `e`. -/
def hcol (n : Fin 1024) (e : Fin 128) : Fin 1024 := ⟨128 * (n.val / 128) + e.val, by omega⟩

/-- Column `n` of a device's heads side by side: the attention of the head that `n` belongs to. -/
def headAt (q : S512x1024.Idx → EReal) (K V : S4096x1024.Idx → EReal) (r : Fin 512) (n : Fin 1024) : EReal :=
  Ideal.div (∑ j : Fin 4096, Ideal.exp (∑ e : Fin 128, q (ix2 r (hcol n e)) * K (ix2 j (hcol n e))) * V (ix2 j n))
    (∑ j : Fin 4096, Ideal.exp (∑ e : Fin 128, q (ix2 r (hcol n e)) * K (ix2 j (hcol n e))))

theorem col_apply (f : S4096x1024.Idx → EReal) (off : ℕ) (h : ∀ a, (![0, off] : Fin 2 → ℕ) a + S4096x128.size a ≤ S4096x1024.size a)
    (ho : off ≤ 896) (j : Fin 4096) (d : Fin 128) :
    col (F := Ideal) f off h (ix2 j d) = f (ix2 j ⟨off + d.val, by omega⟩) := by
  unfold col
  refine congrArg f (funext fun a => Fin.ext ?_)
  fin_cases a
  · show 0 + 1 * j.val = j.val; omega
  · show off + 1 * d.val = off + d.val; omega

/-- The head at columns `128 h`, `128 h + 1`, … is the part of `headAt` at those columns. -/
theorem headOf_col (q : S512x1024.Idx → EReal) (K V : S4096x1024.Idx → EReal) (g : S512x128.Idx → EReal) (h : ℕ) (hh : h < 8)
    (i₁ i₂) (hg : ∀ r (e : Fin 128), g (ix2 r e) = q (ix2 r ⟨128 * h + e.val, by omega⟩)) (r : Fin 512) (d : Fin 128)
    (n : Fin 1024) (hn : n.val = 128 * h + d.val) :
    headOf g (col (F := Ideal) K (128 * h) i₁) (col (F := Ideal) V (128 * h) i₂) r d = headAt q K V r n := by
  have hc : ∀ e, hcol n e = ⟨128 * h + e.val, by omega⟩ := fun e => Fin.ext (by
    show 128 * (n.val / 128) + e.val = _
    rw [hn, show (128 * h + d.val) / 128 = h by omega])
  have hd : (⟨128 * h + d.val, by omega⟩ : Fin 1024) = n := Fin.ext hn.symm
  unfold headOf headAt
  simp only [hg, hc, col_apply _ _ _ (show 128 * h ≤ 896 by omega), hd]

variable (a : BitVec 32) (x : Vec Ideal S1x512x1024 .bf16) (wq wo : Vec Ideal S1024x1024 .bf16) (K V : S4096x1024.Idx → EReal)
  (prev : Vec Ideal S1x512x1024 .bf16) (r : Fin 512) (n : Fin 1024)

/-- The product of a trip's eight heads with the output weight. -/
def prod : EReal := ∑ l : Fin 1024, headAt (k0_pay5 (F := Ideal) x wq) K V r l * wo (ix2 l n)

/-- Eight blocks of 128 columns side by side, read at a column. -/
theorem cat_apply (H : Fin 1024 → EReal) (o0 o1 o2 o3 o4 o5 o6 o7 : FVec Ideal S512x128 .bf16)
    (h0 : ∀ d (l : Fin 1024), l.val = 128 * 0 + d.val → o0 (ix2 r d) = H l) (h1 : ∀ d (l : Fin 1024), l.val = 128 * 1 + d.val → o1 (ix2 r d) = H l)
    (h2 : ∀ d (l : Fin 1024), l.val = 128 * 2 + d.val → o2 (ix2 r d) = H l) (h3 : ∀ d (l : Fin 1024), l.val = 128 * 3 + d.val → o3 (ix2 r d) = H l)
    (h4 : ∀ d (l : Fin 1024), l.val = 128 * 4 + d.val → o4 (ix2 r d) = H l) (h5 : ∀ d (l : Fin 1024), l.val = 128 * 5 + d.val → o5 (ix2 r d) = H l)
    (h6 : ∀ d (l : Fin 1024), l.val = 128 * 6 + d.val → o6 (ix2 r d) = H l) (h7 : ∀ d (l : Fin 1024), l.val = 128 * 7 + d.val → o7 (ix2 r d) = H l)
    (l : Fin 1024) :
    concatenate S512x1024 1 [⟨S512x128, o0⟩, ⟨S512x128, o1⟩, ⟨S512x128, o2⟩, ⟨S512x128, o3⟩, ⟨S512x128, o4⟩, ⟨S512x128, o5⟩, ⟨S512x128, o6⟩,
      ⟨S512x128, o7⟩] concatenates_S512x128_S512x128_S512x128_S512x128_S512x128_S512x128_S512x128_S512x128_S512x1024_d1 (ix2 r l) = H l := by
  have hl := l.isLt
  pointwise
  split_ifs <;> first
    | exact absurd rfl ‹¬ ((1 : Fin 2).val = (1 : Fin 2).val)›
    | exact h0 _ _ (by simp)
    | exact h1 _ _ (by simp; omega)
    | exact h2 _ _ (by simp; omega)
    | exact h3 _ _ (by simp; omega)
    | exact h4 _ _ (by simp; omega)
    | exact h5 _ _ (by simp; omega)
    | exact h6 _ _ (by simp; omega)
    | exact h7 _ _ (by simp; omega)

theorem head0_apply (d : Fin 128) (l : Fin 1024) (hl : l.val = 128 * 0 + d.val) :
    k0_pay6 (F := Ideal) x wq (col (F := Ideal) K 0 inb_S4096x1024_S4096x128_0_0) (col (F := Ideal) V 0 inb_S4096x1024_S4096x128_0_0) (ix2 r d) = headAt (k0_pay5 (F := Ideal) x wq) K V r l := by
  rw [← headOf_col (k0_pay5 (F := Ideal) x wq) K V (extractStridedSlice S512x128 ![0, 0] (k0_pay5 (F := Ideal) x wq) slices_S512x1024_o0_0_S512x128)
    0 (by decide) inb_S4096x1024_S4096x128_0_0 inb_S4096x1024_S4096x128_0_0 (fun r e => by pointwise) r d l hl]
  pointwise [k0_pay6, headOf]

theorem head1_apply (d : Fin 128) (l : Fin 1024) (hl : l.val = 128 * 1 + d.val) :
    k0_pay8 (F := Ideal) (k0_pay7 x wq) (col (F := Ideal) K 128 inb_S4096x1024_S4096x128_0_128) cst0 (col (F := Ideal) V 128 inb_S4096x1024_S4096x128_0_128) (ix2 r d) = headAt (k0_pay5 (F := Ideal) x wq) K V r l := by
  rw [← headOf_col (k0_pay5 (F := Ideal) x wq) K V (extractStridedSlice S512x128 ![0, 128] (k0_pay5 (F := Ideal) x wq) slices_S512x1024_o0_128_S512x128)
    1 (by decide) inb_S4096x1024_S4096x128_0_128 inb_S4096x1024_S4096x128_0_128 (fun r e => by pointwise) r d l hl]
  pointwise [k0_pay8, k0_pay7, cst0, headOf]

theorem head2_apply (d : Fin 128) (l : Fin 1024) (hl : l.val = 128 * 2 + d.val) :
    k0_pay9 (F := Ideal) (k0_pay5 (F := Ideal) x wq) (col (F := Ideal) K 256 inb_S4096x1024_S4096x128_0_256) (col (F := Ideal) V 256 inb_S4096x1024_S4096x128_0_256) (ix2 r d) = headAt (k0_pay5 (F := Ideal) x wq) K V r l := by
  rw [← headOf_col (k0_pay5 (F := Ideal) x wq) K V (extractStridedSlice S512x128 ![0, 256] (k0_pay5 (F := Ideal) x wq) slices_S512x1024_o0_256_S512x128)
    2 (by decide) inb_S4096x1024_S4096x128_0_256 inb_S4096x1024_S4096x128_0_256 (fun r e => by pointwise) r d l hl]
  generalize k0_pay5 (F := Ideal) x wq = q
  pointwise [k0_pay9, headOf]

theorem head3_apply (d : Fin 128) (l : Fin 1024) (hl : l.val = 128 * 3 + d.val) :
    k0_pay10 (F := Ideal) (k0_pay5 (F := Ideal) x wq) (col (F := Ideal) K 384 inb_S4096x1024_S4096x128_0_384) (col (F := Ideal) V 384 inb_S4096x1024_S4096x128_0_384) (ix2 r d) = headAt (k0_pay5 (F := Ideal) x wq) K V r l := by
  rw [← headOf_col (k0_pay5 (F := Ideal) x wq) K V (extractStridedSlice S512x128 ![0, 384] (k0_pay5 (F := Ideal) x wq) slices_S512x1024_o0_384_S512x128)
    3 (by decide) inb_S4096x1024_S4096x128_0_384 inb_S4096x1024_S4096x128_0_384 (fun r e => by pointwise) r d l hl]
  generalize k0_pay5 (F := Ideal) x wq = q
  pointwise [k0_pay10, headOf]

theorem head4_apply (d : Fin 128) (l : Fin 1024) (hl : l.val = 128 * 4 + d.val) :
    k0_pay12 (F := Ideal) (k0_pay11 (k0_pay5 (F := Ideal) x wq)) (col (F := Ideal) K 512 inb_S4096x1024_S4096x128_0_512) cst0 (col (F := Ideal) V 512 inb_S4096x1024_S4096x128_0_512) (ix2 r d) = headAt (k0_pay5 (F := Ideal) x wq) K V r l := by
  rw [← headOf_col (k0_pay5 (F := Ideal) x wq) K V (extractStridedSlice S512x128 ![0, 512] (k0_pay5 (F := Ideal) x wq) slices_S512x1024_o0_512_S512x128)
    4 (by decide) inb_S4096x1024_S4096x128_0_512 inb_S4096x1024_S4096x128_0_512 (fun r e => by pointwise) r d l hl]
  generalize k0_pay5 (F := Ideal) x wq = q
  pointwise [k0_pay12, k0_pay11, cst0, headOf]

theorem head5_apply (d : Fin 128) (l : Fin 1024) (hl : l.val = 128 * 5 + d.val) :
    k0_pay13 (F := Ideal) (k0_pay5 (F := Ideal) x wq) (col (F := Ideal) K 640 inb_S4096x1024_S4096x128_0_640) (col (F := Ideal) V 640 inb_S4096x1024_S4096x128_0_640) (ix2 r d) = headAt (k0_pay5 (F := Ideal) x wq) K V r l := by
  rw [← headOf_col (k0_pay5 (F := Ideal) x wq) K V (extractStridedSlice S512x128 ![0, 640] (k0_pay5 (F := Ideal) x wq) slices_S512x1024_o0_640_S512x128)
    5 (by decide) inb_S4096x1024_S4096x128_0_640 inb_S4096x1024_S4096x128_0_640 (fun r e => by pointwise) r d l hl]
  generalize k0_pay5 (F := Ideal) x wq = q
  pointwise [k0_pay13, headOf]

theorem head6_apply (d : Fin 128) (l : Fin 1024) (hl : l.val = 128 * 6 + d.val) :
    k0_pay14 (F := Ideal) (k0_pay5 (F := Ideal) x wq) (col (F := Ideal) K 768 inb_S4096x1024_S4096x128_0_768) (col (F := Ideal) V 768 inb_S4096x1024_S4096x128_0_768) (ix2 r d) = headAt (k0_pay5 (F := Ideal) x wq) K V r l := by
  rw [← headOf_col (k0_pay5 (F := Ideal) x wq) K V (extractStridedSlice S512x128 ![0, 768] (k0_pay5 (F := Ideal) x wq) slices_S512x1024_o0_768_S512x128)
    6 (by decide) inb_S4096x1024_S4096x128_0_768 inb_S4096x1024_S4096x128_0_768 (fun r e => by pointwise) r d l hl]
  generalize k0_pay5 (F := Ideal) x wq = q
  pointwise [k0_pay14, headOf]

theorem head7_apply (d : Fin 128) (l : Fin 1024) (hl : l.val = 128 * 7 + d.val) :
    k0_pay8 (F := Ideal) (k0_pay15 (k0_pay5 (F := Ideal) x wq)) (col (F := Ideal) K 896 inb_S4096x1024_S4096x128_0_896) cst0 (col (F := Ideal) V 896 inb_S4096x1024_S4096x128_0_896) (ix2 r d) = headAt (k0_pay5 (F := Ideal) x wq) K V r l := by
  rw [← headOf_col (k0_pay5 (F := Ideal) x wq) K V (extractStridedSlice S512x128 ![0, 896] (k0_pay5 (F := Ideal) x wq) slices_S512x1024_o0_896_S512x128)
    7 (by decide) inb_S4096x1024_S4096x128_0_896 inb_S4096x1024_S4096x128_0_896 (fun r e => by pointwise) r d l hl]
  generalize k0_pay5 (F := Ideal) x wq = q
  pointwise [k0_pay8, k0_pay15, cst0, headOf]

/-- The output product and the addition of what came in, over any block of head outputs. -/
theorem out_apply (C : FVec Ideal S512x1024 .bf16) :
    addf (matmul dot_S512x1024_S1024x1024_S512x1024_1_0_0_1_n_n none C (shapeCast S1024x1024 wo shapeCasts_S1024x1024_S1024x1024 : FVec Ideal S1024x1024 .bf16)
        (constant S512x1024 .f32 0x00000000#32))
      (Scalar.select (Scalar.cmpi .sgt a 0#32)
        (extf .f32 (shapeCast S512x1024 prev shapeCasts_S1x512x1024_S512x1024 : FVec Ideal S512x1024 .bf16) bitsLt_bf16_f32)
        (broadcast S512x1024 (Scalar.ofBits (F := Ideal) .f32 0x00000000#32))) (ix2 r n)
      = (∑ l : Fin 1024, C (ix2 r l) * wo (ix2 l n)) + Scalar.select (Scalar.cmpi .sgt a 0#32) (prev (ix3 0 r n)) 0 := by
  pointwise

/-- A trip's last value at an index. -/
theorem pay2_apply : tripOf (F := Ideal) k0_pay2 a x wq wo K V prev (ix2 r n)
    = prod x wq wo K V r n + Scalar.select (Scalar.cmpi .sgt a 0#32) (prev (ix3 0 r n)) 0 := by
  refine (out_apply a wo prev r n _).trans ?_
  unfold prod
  refine congrArg (· + _) (Finset.sum_congr rfl fun l _ => congrArg (· * _) ?_)
  exact cat_apply r (headAt (k0_pay5 (F := Ideal) x wq) K V r) _ _ _ _ _ _ _ _
    (head0_apply x wq K V r) (head1_apply x wq K V r) (head2_apply x wq K V r) (head3_apply x wq K V r)
    (head4_apply x wq K V r) (head5_apply x wq K V r) (head6_apply x wq K V r) (head7_apply x wq K V r) l

/-- What a trip hands on. -/
theorem pay3_apply : tripOf (F := Ideal) k0_pay3 a x wq wo K V prev (ix2 r n)
    = prod x wq wo K V r n + Scalar.select (Scalar.cmpi .sgt a 0#32) (prev (ix3 0 r n)) 0 := by
  rw [← pay2_apply]
  unfold tripOf k0_pay3
  pointwise

/-- What the last trip writes into the result. -/
theorem pay4_apply : tripOf (F := Ideal) k0_pay4 a x wq wo K V prev (ix3 0 r n)
    = prod x wq wo K V r n + Scalar.select (Scalar.cmpi .sgt a 0#32) (prev (ix3 0 r n)) 0 := by
  rw [← pay2_apply]
  unfold tripOf k0_pay4
  pointwise

end Cert.Attn
end
-- ==== Proof.Value.Sum.lean ====
/- The ring of partial sums: what leaves the loop on a device is the sum, over all devices, of each device's product
   for that device's chunk of the rows. -/
module

public import proofs.«01_k».proof.Proof.Value.Trip

@[expose] public section

noncomputable section

namespace Cert.Attn

open Cert.KernelIdeal Cert.KernelIdeal.Gen Cert.RingIdeal Idealize.ShloMosaic Idealize.ShloMosaic.TcCoe

variable (m : (ℓ : Loc nD τ sig) → Buf (Elt Ideal) ℓ)

/-- Device `d`'s share of chunk `s`. -/
def share (d : Dev nD) (s : ℕ) (hs : s < 8) (r : Fin 512) (n : Fin 1024) : EReal :=
  prod (xSl m s hs) (wqst m d) (wost m d) (kF m d) (vF m d) r n

theorem share_congr (d : Dev nD) {s s' : ℕ} (h : s = s') (hs : s < 8) (hs' : s' < 8) (r : Fin 512) (n : Fin 1024) :
    share m d s hs r n = share m d s' hs' r n := by subst h; rfl

theorem later (t : ℕ) (ht : t < 7) : Scalar.cmpi .sgt (Scf.iv 0#32 1#32 (t + 1)) 0#32 = 1#1 := by
  interval_cases t <;> decide

/-- What a device sends at trip `t` is the sum of the shares of the `t + 1` devices up to it. -/
theorem snd_sum (r : Fin 512) (n : Fin 1024) : ∀ (t : ℕ), t ≤ 7 → ∀ (c : Dev nD) (s : ℕ) (hs : s < 8), s = sl c (7 - t + 8) →
    sndF m t c (ix2 r n) = ∑ u ∈ Finset.range (t + 1), share m (prv^[u] c) s hs r n
  | 0, _, c, s, hs, h => by
    subst h
    refine (pay3_apply ..).trans ?_
    rw [show Scalar.cmpi .sgt (Scf.iv 0#32 1#32 0) 0#32 = 0#1 from by decide]
    simp only [Scalar.select, Finset.sum_range_succ, Finset.sum_range_zero, zero_add, Function.iterate_zero, id]
    exact add_zero _
  | t + 1, ht, c, s, hs, h => by
    subst h
    refine (pay3_apply ..).trans ?_
    rw [later t (by omega)]
    have ih := snd_sum r n t (by omega) (prv c) _ hs (by
      rw [show 7 - t + 8 = (7 - (t + 1) + 8) + 1 by omega, sl_prv])
    rw [Finset.sum_range_succ', add_comm]
    exact congrArg₂ (· + ·) ih rfl

/-- Going round the ring once meets every device. -/
theorem round_all (c : Dev nD) (f : Dev nD → EReal) : ∑ u ∈ Finset.range 8, f (prv^[u] c) = ∑ d : Dev nD, f d := by
  rw [Finset.sum_range]
  have hb : Function.Bijective fun u : Fin 8 => (prv^[u.val] c : Dev nD) := by
    revert c; decide
  exact hb.sum_comp f

/-- A device's block of the result is the sum of all devices' shares of its chunk. -/
theorem out_sum (c : Dev nD) (r : Fin 512) (n : Fin 1024) :
    outF m c (ix3 0 r n) = ∑ d : Dev nD, share m d c.val c.isLt r n := by
  have hc : c.val = sl c (7 - 7 + 8) := (sl_eight c).symm
  refine (pay4_apply ..).trans ?_
  rw [later 6 (by omega), ← round_all c fun d => share m d c.val c.isLt r n, Finset.sum_range_succ', add_comm]
  refine congrArg₂ (· + ·) ?_ (share_congr m c hc.symm _ _ r n)
  exact snd_sum m r n 6 (by omega) (prv c) _ c.isLt (by rw [show 7 - 6 + 8 = 8 + 1 from rfl, sl_prv, sl_eight])

end Cert.Attn
end
-- ==== Proof.Value.Ref.lean ====
/- The reference over the extended reals, read at an index of its result. -/
module

public import proofs.«01_k».proof.Proof.Gen.ReferenceIdeal.Run
public import Idealize.ShloMosaic.Lib.Pointwise
public import Idealize.ShloMosaic.Lib.Tactic.CleanTypes

@[expose] public section

noncomputable section

namespace Cert.Attn

open Cert.ReferenceIdeal Cert.ReferenceIdeal.Gen Idealize.ShloMosaic Idealize.ShloMosaic.TcCoe

variable (X : S1x4096x1024.Idx → EReal) (Wq Wk Wv : S1024x8192.Idx → EReal) (Wo : S8192x1024.Idx → EReal)

/-- The first column of the head that column `n` belongs to, plus `e`. -/
def gcol (n : Fin 8192) (e : Fin 128) : Fin 8192 := ⟨n.val / 128 * 128 + e.val, by omega⟩

/-- A projection of the activations. -/
def proj (W : S1024x8192.Idx → EReal) (i : Fin 4096) (n : Fin 8192) : EReal := ∑ e : Fin 1024, X (ix3 0 i e) * W (ix2 e n)

/-- The score of position `j` for position `i`, in the head that column `n` belongs to. -/
def score (i j : Fin 4096) (n : Fin 8192) : EReal :=
  (∑ e : Fin 128, proj X Wq i (gcol n e) * proj X Wk j (gcol n e)) * Ideal.ofBits .f32 0x3DB504F3#32

/-- The greatest score. -/
def top (i : Fin 4096) (n : Fin 8192) : EReal := Finset.univ.fold max ⊥ fun j : Fin 4096 => score X Wq Wk i j n

/-- The attention's output at position `i` and column `n`. -/
def attn (i : Fin 4096) (n : Fin 8192) : EReal :=
  Ideal.div (∑ j : Fin 4096, proj X Wv j n * Ideal.exp (score X Wq Wk i j n - top X Wq Wk i n))
    (∑ j : Fin 4096, Ideal.exp (score X Wq Wk i j n - top X Wq Wk i n))

/-- The result: the attention's output times the output weight. -/
def result (i : Fin 4096) (c : Fin 1024) : EReal := ∑ n : Fin 8192, attn X Wq Wk Wv i n * Wo (ix2 n c)

/-- The pattern that a maximum starts from is −∞. -/
theorem ofBits_neg_inf : Ideal.ofBits .f32 0xFF800000#32 = ⊥ := by simp [Ideal.ofBits, Ideal.ieee]

set_option maxRecDepth 16384 in
set_option maxHeartbeats 1600000 in
theorem res_apply (m : (ℓ : Loc nD τ sig) → Buf (Elt Ideal) ℓ) (d : Dev nD) (i : Fin 4096) (c : Fin 1024) :
    Value.res_main_v27 (F := Ideal) m d (ix3 0 i c)
      = result (m ((d.tc : Thread nD τ).loc main_arg0)) (m ((d.tc : Thread nD τ).loc main_arg1)) (m ((d.tc : Thread nD τ).loc main_arg3))
          (m ((d.tc : Thread nD τ).loc main_arg4)) (m ((d.tc : Thread nD τ).loc main_arg2)) i c := by
  unfold Value.res_main_v27
  clean_types
  pointwise
  simp only [ofBits_neg_inf]
  rfl

end Cert.Attn
end
-- ==== Proof.Value.Softmax.lean ====
/- The one law of the softmax that the two programs differ by: subtracting a real number from every score changes
   neither the weights' ratio to their sum nor, therefore, the weighted mean, whatever extended reals are weighted. -/
module

public import Idealize.ShloMosaic.PureOps.Ideal.Laws

@[expose] public section

noncomputable section

namespace Cert.Attn

open Idealize.ShloMosaic

/-- A finite extended real. -/
def IsFin (x : EReal) : Prop := ∃ r : ℝ, x = r

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sum {ι : Type} {s : Finset ι} {f : ι → EReal} (h : ∀ i, IsFin (f i)) : IsFin (∑ i ∈ s, f i) := by
  choose g hg using h
  exact ⟨∑ i ∈ s, g i, by rw [coe_sum]; exact Finset.sum_congr rfl fun i _ => hg i⟩

theorem IsFin.of_abs {x : EReal} (h : max x (-x) < ⊤) : IsFin x := by
  induction x using EReal.rec with
  | bot => simp at h
  | top => simp at h
  | coe r => exact ⟨r, rfl⟩

/-- A positive real factor distributes over a sum of extended reals. -/
theorem mul_sum_pos {ι : Type} (s : Finset ι) (f : ι → EReal) (c : ℝ) (hc : 0 < c) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc.le) (EReal.coe_ne_top c) _ _

/-- A real factor distributes over a sum of reals. -/
theorem sum_mul_fin {ι : Type} (s : Finset ι) (f : ι → EReal) (hf : ∀ i, IsFin (f i)) (c : EReal) (hc : IsFin c) :
    (∑ i ∈ s, f i) * c = ∑ i ∈ s, f i * c := by
  choose g hg using hf
  obtain ⟨c, rfl⟩ := hc
  simp only [hg, ← EReal.coe_mul, ← coe_sum, Finset.sum_mul]

/-- The greatest of finitely many reals, from −∞, is a real. -/
theorem IsFin.fold_max {n : ℕ} (s : Fin (n + 1) → EReal) (h : ∀ i, IsFin (s i)) : IsFin (Finset.univ.fold max ⊥ s) := by
  have key : ∀ S : Finset (Fin (n + 1)), S.fold max ⊥ s = ⊥ ∧ S = ∅ ∨ IsFin (S.fold max ⊥ s) := by
    classical
    intro S
    induction S using Finset.induction_on with
    | empty => left; simp
    | insert a S ha ih =>
      right
      rw [Finset.fold_insert ha]
      obtain ⟨r, hr⟩ := h a
      rcases ih with ⟨e, -⟩ | ⟨q, hq⟩
      · rw [e, hr]; exact ⟨r, by simp⟩
      · rw [hq, hr]; exact ⟨max r q, (EReal.coe_strictMono.monotone.map_max (a := r) (b := q)).symm⟩
  rcases key Finset.univ with ⟨-, e⟩ | e
  · exact absurd e (Finset.univ_nonempty.ne_empty)
  · exact e

/-- Subtracting a real from every score leaves the weighted mean of the values unchanged. -/
theorem softmax_shift {n : ℕ} (s : Fin (n + 1) → EReal) (hs : ∀ j, IsFin (s j)) (M : EReal) (hM : IsFin M) (v : Fin (n + 1) → EReal) :
    Ideal.div (∑ j, v j * Ideal.exp (s j - M)) (∑ j, Ideal.exp (s j - M))
      = Ideal.div (∑ j, Ideal.exp (s j) * v j) (∑ j, Ideal.exp (s j)) := by
  choose r hr using hs
  obtain ⟨m, rfl⟩ := hM
  have hE : ∀ j, Ideal.exp (s j - (m : EReal)) = ((Real.exp (-m) : ℝ) : EReal) * ((Real.exp (r j) : ℝ) : EReal) := by
    intro j
    rw [hr, ← EReal.coe_sub, Ideal.exp_coe, ← EReal.coe_mul, ← Real.exp_add, sub_eq_neg_add]
  have hF : ∀ j, Ideal.exp (s j) = ((Real.exp (r j) : ℝ) : EReal) := fun j => by rw [hr, Ideal.exp_coe]
  have hc : 0 < Real.exp (-m) := Real.exp_pos _
  have hS : 0 < ∑ j, Real.exp (r j) := Finset.sum_pos (fun j _ => Real.exp_pos _) Finset.univ_nonempty
  simp only [hE, hF]
  have hnum : ∑ j, v j * (((Real.exp (-m) : ℝ) : EReal) * ((Real.exp (r j) : ℝ) : EReal))
      = ((Real.exp (-m) : ℝ) : EReal) * ∑ j, ((Real.exp (r j) : ℝ) : EReal) * v j := by
    rw [mul_sum_pos _ _ _ hc]
    exact Finset.sum_congr rfl fun j _ => by rw [mul_left_comm, mul_comm (v j)]
  have hden : ∑ j, ((Real.exp (-m) : ℝ) : EReal) * ((Real.exp (r j) : ℝ) : EReal)
      = ((Real.exp (-m) * ∑ j, Real.exp (r j) : ℝ) : EReal) := by
    rw [← mul_sum_pos _ _ _ hc, EReal.coe_mul, coe_sum]
  rw [hnum, hden, ← coe_sum, Ideal.div_coe (mul_pos hc hS).ne', Ideal.div_coe hS.ne']
  rw [mul_comm ((Real.exp (-m) : ℝ) : EReal), mul_assoc, ← EReal.coe_mul]
  congr 2
  field_simp

/-- Why the scores are taken as finite: where every score is +∞ and every value is `v`, the kernel's mean is 0, -/
theorem mean_top {n : ℕ} (v : EReal) :
    Ideal.div (∑ _j : Fin (n + 1), Ideal.exp ⊤ * v) (∑ _j : Fin (n + 1), Ideal.exp ⊤) = 0 := by
  have h : ∀ k : ℕ, ∑ _j : Fin (k + 1), (⊤ : EReal) = ⊤ := by
    intro k
    induction k with
    | zero => simp
    | succ k ih => rw [Fin.sum_univ_succ, ih]; rfl
  rw [Ideal.exp_top, h]
  simp [Ideal.div]

/-- and the reference's, +∞ being taken away from +∞, is −∞. -/
theorem mean_shift_top {n : ℕ} (v : EReal) :
    Ideal.div (∑ _j : Fin (n + 1), v * Ideal.exp (⊤ - ⊤)) (∑ _j : Fin (n + 1), Ideal.exp (⊤ - ⊤)) = ⊥ := by
  have h : (⊤ : EReal) - ⊤ = ⊥ := by simp
  simp [h, Ideal.div]

end Cert.Attn
end
-- ==== Proof.Value.Arrays.lean ====
/- What the kernel's buffers hold in terms of the whole arrays: each device's block of each argument, the gathered
   activations, the keys and values, the scaled queries. -/
module

public import proofs.«01_k».proof.Proof.Value.Sum
public import proofs.«01_k».proof.Proof.Value.Ref
public import proofs.«01_k».proof.Proof.Value.Softmax

@[expose] public section

noncomputable section

namespace Cert.Attn

open Cert.KernelIdeal Cert.KernelIdeal.Gen Cert.RingIdeal Idealize.ShloMosaic Idealize.ShloMosaic.TcCoe

/-- Row `512 s + r` of the activations. -/
def row (s : ℕ) (hs : s < 8) (r : Fin 512) : Fin 4096 := ⟨s * 512 + r.val, by omega⟩
/-- Column `1024 d + n` of a weight's long axis. -/
def wide (d : Dev nD) (n : Fin 1024) : Fin 8192 := ⟨d.val * 1024 + n.val, by have := d.isLt; change d.val < 8 at this; omega⟩

variable (m : (ℓ : Loc nD τ sig) → Buf (Elt Ideal) ℓ)
variable (X : (⟨3, ![1, 4096, 1024]⟩ : Shape).Idx → EReal) (Wq Wk Wv : (⟨2, ![1024, 8192]⟩ : Shape).Idx → EReal)
  (Wo : (⟨2, ![8192, 1024]⟩ : Shape).Idx → EReal)

/-- Every device's arguments are its blocks of the whole arrays. -/
structure Blocks : Prop where
  x : ∀ (c : Dev nD) (r : Fin 512) (e : Fin 1024), xst m c (ix3 0 r e) = X (ix3 0 (row c.val c.isLt r) e)
  wq : ∀ (c : Dev nD) (e n : Fin 1024), wqst m c (ix2 e n) = Wq (ix2 e (wide c n))
  wo : ∀ (c : Dev nD) (e n : Fin 1024), wost m c (ix2 e n) = Wo (ix2 (wide c e) n)
  wk : ∀ (c : Dev nD) (e n : Fin 1024), wkst m c (ix2 e n) = Wk (ix2 e (wide c n))
  wv : ∀ (c : Dev nD) (e n : Fin 1024), wvst m c (ix2 e n) = Wv (ix2 e (wide c n))

theorem pay16_apply (x : Vec Ideal S1x512x1024 .bf16) (i : S1x512x1024.Idx) : k0_pay16 (F := Ideal) x i = x i := by
  pointwise [k0_pay16]

theorem pay18_apply (x : Vec Ideal S1x512x1024 .bf16) (w : Vec Ideal S1024x1024 .bf16) (r : Fin 512) (n : Fin 1024) :
    k0_pay18 (F := Ideal) x w (ix2 r n) = ∑ e : Fin 1024, x (ix3 0 r e) * w (ix2 e n) := by
  pointwise [k0_pay18, k0_pay17]

theorem row_split (j : Fin 4096) (h : j.val / 512 < 8) : row (j.val / 512) h ⟨j.val % 512, Nat.mod_lt _ (by decide)⟩ = j :=
  Fin.ext (by show j.val / 512 * 512 + j.val % 512 = j.val; omega)

variable {m X Wq Wk Wv Wo} (B : Blocks m X Wq Wk Wv Wo)
include B

theorem slot_apply (s : ℕ) (hs : s < 8) (r : Fin 512) (e : Fin 1024) : xSl m s hs (ix3 0 r e) = X (ix3 0 (row s hs r) e) :=
  (pay16_apply _ _).trans (B.x ⟨s, hs⟩ r e)

theorem keys_apply (d : Dev nD) (j : Fin 4096) (n : Fin 1024) : kF m d (ix2 j n) = proj X Wk j (wide d n) := by
  refine (pay18_apply _ _ _ _).trans ?_
  refine Finset.sum_congr rfl fun e _ => ?_
  exact congrArg₂ (· * ·) ((slot_apply B _ _ _ _).trans (congrArg (fun i => X (ix3 0 i e)) (row_split j _))) (B.wk d e n)

theorem values_apply (d : Dev nD) (j : Fin 4096) (n : Fin 1024) : vF m d (ix2 j n) = proj X Wv j (wide d n) := by
  refine (pay18_apply _ _ _ _).trans ?_
  refine Finset.sum_congr rfl fun e _ => ?_
  exact congrArg₂ (· * ·) ((slot_apply B _ _ _ _).trans (congrArg (fun i => X (ix3 0 i e)) (row_split j _))) (B.wv d e n)

theorem queries_apply (d : Dev nD) (s : ℕ) (hs : s < 8) (r : Fin 512) (n : Fin 1024) :
    k0_pay5 (F := Ideal) (xSl m s hs) (wqst m d) (ix2 r n) = proj X Wq (row s hs r) (wide d n) * Ideal.ofBits .f32 0x3DB504F3#32 := by
  rw [pay5_apply]
  refine congrArg (· * _) (Finset.sum_congr rfl fun e _ => ?_)
  rw [B.wq, slot_apply B]

omit B in
theorem hcol_wide (d : Dev nD) (l : Fin 1024) (e : Fin 128) : wide d (hcol l e) = gcol (wide d l) e :=
  Fin.ext (by
    show d.val * 1024 + (128 * (l.val / 128) + e.val) = (d.val * 1024 + l.val) / 128 * 128 + e.val
    omega)

omit B in
/-- The scale of the scores is a real number. -/
theorem scale_fin : IsFin (Ideal.ofBits .f32 0x3DB504F3#32) := by
  unfold Ideal.ofBits Ideal.ieee
  dsimp only
  rw [if_neg (by decide), if_neg (by decide)]
  exact ⟨_, rfl⟩

/-- The heads of device `d` on chunk `s` are the attention at that chunk's rows and that device's columns. -/
theorem heads_apply (hX : ∀ i, IsFin (X i)) (hq : ∀ i, IsFin (Wq i)) (hk : ∀ i, IsFin (Wk i)) (d : Dev nD) (s : ℕ) (hs : s < 8)
    (r : Fin 512) (l : Fin 1024) :
    headAt (k0_pay5 (F := Ideal) (xSl m s hs) (wqst m d)) (kF m d) (vF m d) r l = attn X Wq Wk Wv (row s hs r) (wide d l) := by
  have hκ := scale_fin
  have hp : ∀ (W : (⟨2, ![1024, 8192]⟩ : Shape).Idx → EReal), (∀ i, IsFin (W i)) → ∀ i n, IsFin (proj X W i n) :=
    fun W hW i n => IsFin.sum fun e => (hX _).mul (hW _)
  have hsc : ∀ j, IsFin (score X Wq Wk (row s hs r) j (wide d l)) := fun j =>
    (IsFin.sum fun e => (hp Wq hq _ _).mul (hp Wk hk _ _)).mul hκ
  have hs' : ∀ j : Fin 4096, ∑ e : Fin 128, k0_pay5 (F := Ideal) (xSl m s hs) (wqst m d) (ix2 r (hcol l e)) * kF m d (ix2 j (hcol l e))
      = score X Wq Wk (row s hs r) j (wide d l) := by
    intro j
    unfold score
    rw [sum_mul_fin _ _ (fun e => (hp Wq hq _ _).mul (hp Wk hk _ _)) _ hκ]
    refine Finset.sum_congr rfl fun e _ => ?_
    rw [queries_apply B, keys_apply B, hcol_wide, mul_right_comm]
  unfold headAt attn
  simp only [hs', values_apply B]
  exact (softmax_shift (n := 4095) (fun j => score X Wq Wk (row s hs r) j (wide d l)) hsc _ (IsFin.fold_max (n := 4095) _ hsc)
    (fun j => proj X Wv j (wide d l))).symm

omit B in
/-- The devices' columns one after another are the columns of the whole. -/
theorem sum_wide (f : Fin 8192 → EReal) : ∑ d : Dev nD, ∑ l : Fin 1024, f (wide d l) = ∑ n : Fin 8192, f n := by
  rw [← Fintype.sum_prod_type']
  refine Fintype.sum_equiv (finProdFinEquiv (m := 8) (n := 1024)) _ _ fun p => congrArg f (Fin.ext ?_)
  show p.1.val * 1024 + p.2.val = p.2.val + 1024 * p.1.val
  omega

/-- A device's block of the kernel's result is its block of the reference's. -/
theorem out_eq (hX : ∀ i, IsFin (X i)) (hq : ∀ i, IsFin (Wq i)) (hk : ∀ i, IsFin (Wk i)) (c : Dev nD) (r : Fin 512) (n : Fin 1024) :
    outF m c (ix3 0 r n) = result X Wq Wk Wv Wo (row c.val c.isLt r) n := by
  rw [out_sum]
  unfold result
  rw [← sum_wide]
  refine Finset.sum_congr rfl fun d _ => ?_
  unfold share prod
  refine Finset.sum_congr rfl fun l _ => ?_
  rw [heads_apply B hX hq hk, B.wo]

end Cert.Attn
end
-- ==== Proof.Value.Meet.lean ====
/- The two programs meet: from the claim's hypotheses (each device holds its blocks; the activations and the query and
   key weights are finite) each device's block of the result is its block of the reference's. -/
module

public import proofs.«01_k».proof.Defs
public import proofs.«01_k».proof.Proof.Value.Arrays

@[expose] public section

noncomputable section

namespace Cert.Attn

open Cert.KernelIdeal Cert.KernelIdeal.Gen Cert.RingIdeal Idealize.ShloMosaic Idealize.ShloMosaic.TcCoe

/-- The kernel's precondition's side conditions. -/
theorem pre_facts : Cert.Pre_finite_KernelIdeal.Facts := ⟨by decide, by decide, by decide⟩
theorem pre_facts_ref : Cert.Pre_finite_ReferenceIdeal.Facts := ⟨by decide, by decide, by decide⟩

/-- The pattern of +∞. -/
theorem ofBits_inf : Ideal.ofBits .f32 0x7F800000#32 = ⊤ := by simp [Ideal.ofBits, Ideal.ieee]

theorem IsFin.of_cmp {x : EReal} (h : FloatOps.cmpf (F := Ideal) (φ := .f32) .olt (max x (-x)) (Ideal.ofBits .f32 0x7F800000#32) = 1#1) : IsFin x := by
  rw [ofBits_inf, Ideal.cmpf_def] at h
  refine IsFin.of_abs ?_
  by_contra hn
  revert h
  simp [Ideal.cmp, hn]

variable (m : (ℓ : Loc nD τ sig) → Buf (Elt Ideal) ℓ)

theorem pre_x [Cert.Pre_finite_KernelIdeal.Facts] (h : Pre_KernelIdeal_finite_KernelIdeal m) (c : Dev nD) (i : S1x512x1024.Idx) :
    IsFin (m ((c.tc : Thread nD τ).loc main_arg0) i) := by
  have := congrFun (h c).1 i
  exact IsFin.of_cmp this

theorem pre_wq [Cert.Pre_finite_KernelIdeal.Facts] (h : Pre_KernelIdeal_finite_KernelIdeal m) (c : Dev nD) (i : S1024x1024.Idx) :
    IsFin (m ((c.tc : Thread nD τ).loc main_arg1) i) := IsFin.of_cmp (congrFun (h c).2.1 i)

theorem pre_wk [Cert.Pre_finite_KernelIdeal.Facts] (h : Pre_KernelIdeal_finite_KernelIdeal m) (c : Dev nD) (i : S1024x1024.Idx) :
    IsFin (m ((c.tc : Thread nD τ).loc main_arg3) i) := IsFin.of_cmp (congrFun (h c).2.2 i)

variable (X : (⟨3, ![1, 4096, 1024]⟩ : Shape).Idx → EReal) (Wq Wk Wv : (⟨2, ![1024, 8192]⟩ : Shape).Idx → EReal)
  (Wo : (⟨2, ![8192, 1024]⟩ : Shape).Idx → EReal)

/-- What device `c` holds of an array of rows; of a weight cut along its columns; of one cut along its rows. -/
theorem block_rows (c : Dev nD) (r : Fin 512) (e : Fin 1024) :
    Layout.block ⟨3, ![1, 512, 1024]⟩ ⟨3, ![1, 4096, 1024]⟩ 1 8 c X (by decide) (ix3 0 r e) = X (ix3 0 (row c.val c.isLt r) e) :=
  congrArg X (funext fun a => Fin.ext (by fin_cases a <;> rfl))

theorem block_cols (W : (⟨2, ![1024, 8192]⟩ : Shape).Idx → EReal) (c : Dev nD) (e n : Fin 1024) :
    Layout.block ⟨2, ![1024, 1024]⟩ ⟨2, ![1024, 8192]⟩ 1 8 c W (by decide) (ix2 e n) = W (ix2 e (wide c n)) :=
  congrArg W (funext fun a => Fin.ext (by fin_cases a <;> rfl))

theorem block_wo (c : Dev nD) (e n : Fin 1024) :
    Layout.block ⟨2, ![1024, 1024]⟩ ⟨2, ![8192, 1024]⟩ 0 8 c Wo (by decide) (ix2 e n) = Wo (ix2 (wide c e) n) :=
  congrArg Wo (funext fun a => Fin.ext (by fin_cases a <;> rfl))

/-- A window over a whole array is the array. -/
theorem xst_eq (c : Dev nD) : xst m c = m ((c.tc : Thread nD τ).loc main_arg0) := by
  funext i
  refine congrArg (m ((c.tc : Thread nD τ).loc main_arg0)) (funext fun a => Fin.ext ?_)
  show 0 * _ + 1 * (i a).val = (i a).val
  omega
theorem wqst_eq (c : Dev nD) : wqst m c = m ((c.tc : Thread nD τ).loc main_arg1) := by
  funext i
  refine congrArg (m ((c.tc : Thread nD τ).loc main_arg1)) (funext fun a => Fin.ext ?_)
  show 0 * _ + 1 * (i a).val = (i a).val
  omega
theorem wost_eq (c : Dev nD) : wost m c = m ((c.tc : Thread nD τ).loc main_arg2) := by
  funext i
  refine congrArg (m ((c.tc : Thread nD τ).loc main_arg2)) (funext fun a => Fin.ext ?_)
  show 0 * _ + 1 * (i a).val = (i a).val
  omega
theorem wkst_eq (c : Dev nD) : wkst m c = m ((c.tc : Thread nD τ).loc main_arg3) := by
  funext i
  refine congrArg (m ((c.tc : Thread nD τ).loc main_arg3)) (funext fun a => Fin.ext ?_)
  show 0 * _ + 1 * (i a).val = (i a).val
  omega
theorem wvst_eq (c : Dev nD) : wvst m c = m ((c.tc : Thread nD τ).loc main_arg4) := by
  funext i
  refine congrArg (m ((c.tc : Thread nD τ).loc main_arg4)) (funext fun a => Fin.ext ?_)
  show 0 * _ + 1 * (i a).val = (i a).val
  omega

/-- Every row, every wide column is some device's. -/
theorem row_surj (i : Fin 4096) : ∃ (c : Dev nD) (r : Fin 512), i = row c.val c.isLt r :=
  ⟨(⟨i.val / 512, by omega⟩ : Fin 8), ⟨i.val % 512, Nat.mod_lt _ (by decide)⟩, (row_split i (by omega)).symm⟩

theorem wide_surj (n : Fin 8192) : ∃ (c : Dev nD) (l : Fin 1024), n = wide c l :=
  ⟨(⟨n.val / 1024, by omega⟩ : Fin 8), ⟨n.val % 1024, Nat.mod_lt _ (by decide)⟩, Fin.ext (by
    show n.val = n.val / 1024 * 1024 + n.val % 1024; omega)⟩

variable (m' : (ℓ : Loc Cert.ReferenceIdeal.nD Cert.ReferenceIdeal.τ Cert.ReferenceIdeal.sig) → Buf (Elt Ideal) ℓ)

/-- Each device's block of the result is its block of the reference's result. -/
theorem meet [Cert.Pre_finite_KernelIdeal.Facts] (h : Pre_KernelIdeal_finite_KernelIdeal m)
    (hb : ∀ c : Dev nD,
      m ((c.tc : Thread nD τ).loc main_arg0) = Layout.block ⟨3, ![1, 512, 1024]⟩ ⟨3, ![1, 4096, 1024]⟩ 1 8 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4)))
    (c : Dev nD) :
    outF m c = Layout.block ⟨3, ![1, 512, 1024]⟩ ⟨3, ![1, 4096, 1024]⟩ 1 8 c (Cert.ReferenceIdeal.Value.res_main_v27 (F := Ideal) m' 0) := by
  have B : Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg2)) :=
    ⟨fun c r e => (congrFun ((xst_eq m c).trans (hb c).1) _).trans (block_rows _ c r e),
      fun c e n => (congrFun ((wqst_eq m c).trans (hb c).2.1) _).trans (block_cols _ c e n),
      fun c e n => (congrFun ((wost_eq m c).trans (hb c).2.2.1) _).trans (block_wo _ c e n),
      fun c e n => (congrFun ((wkst_eq m c).trans (hb c).2.2.2.1) _).trans (block_cols _ c e n),
      fun c e n => (congrFun ((wvst_eq m c).trans (hb c).2.2.2.2) _).trans (block_cols _ c e n)⟩
  have hX : ∀ i, IsFin (m' (((0 : Dev Cert.ReferenceIdeal.nD).tc : Thread Cert.ReferenceIdeal.nD Cert.ReferenceIdeal.τ).loc Cert.ReferenceIdeal.main_arg0) i) := by
    intro i
    obtain ⟨z, a, e, rfl⟩ : ∃ (z : Fin 1) (a : Fin 4096) (e : Fin 1024), i = ix3 z a e := ⟨i 0, i 1, i 2, eq_ix3 i⟩
    obtain rfl : z = 0 := Subsingleton.elim _ _
    obtain ⟨d, r, rfl⟩ := row_surj a
    exact (B.x d r e) ▸ (congrFun (xst_eq m d) (ix3 0 r e)).symm ▸ pre_x m h d (ix3 0 r e)
  have hq : ∀ i, IsFin (m' (((0 : Dev Cert.ReferenceIdeal.nD).tc : Thread Cert.ReferenceIdeal.nD Cert.ReferenceIdeal.τ).loc Cert.ReferenceIdeal.main_arg1) i) := by
    intro i
    obtain ⟨e, a, rfl⟩ : ∃ (e : Fin 1024) (a : Fin 8192), i = ix2 e a := ⟨i 0, i 1, eq_ix2 i⟩
    obtain ⟨d, n, rfl⟩ := wide_surj a
    exact (B.wq d e n) ▸ (congrFun (wqst_eq m d) (ix2 e n)).symm ▸ pre_wq m h d (ix2 e n)
  have hk : ∀ i, IsFin (m' (((0 : Dev Cert.ReferenceIdeal.nD).tc : Thread Cert.ReferenceIdeal.nD Cert.ReferenceIdeal.τ).loc Cert.ReferenceIdeal.main_arg3) i) := by
    intro i
    obtain ⟨e, a, rfl⟩ : ∃ (e : Fin 1024) (a : Fin 8192), i = ix2 e a := ⟨i 0, i 1, eq_ix2 i⟩
    obtain ⟨d, n, rfl⟩ := wide_surj a
    exact (B.wk d e n) ▸ (congrFun (wkst_eq m d) (ix2 e n)).symm ▸ pre_wk m h d (ix2 e n)
  funext i
  obtain ⟨z, r, n, rfl⟩ : ∃ (z : Fin 1) (r : Fin 512) (n : Fin 1024), i = ix3 z r n := ⟨i 0, i 1, i 2, eq_ix3 i⟩
  obtain rfl : z = 0 := Subsingleton.elim _ _
  refine (out_eq B hX hq hk c r n).trans ?_
  exact (res_apply m' 0 _ n).symm.trans (block_rows _ c r n).symm

end Cert.Attn
end
-- ==== Proof.lean ====
/- The proof of the certificate's claims: each program's frame from its run. -/
module

public import proofs.«01_k».proof.Defs
public import proofs.«01_k».proof.Proof.Gen.ReferenceIdeal.Run
public import proofs.«01_k».proof.Proof.RingIdeal.Result
public import proofs.«01_k».proof.Proof.RingBits.Result
public import proofs.«01_k».proof.Proof.Value.Meet

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).2, h.2⟩) (Cert.RingBits.run_result (F := Bits) m ρ)

theorem frame_kernelIdeal : Cert.quiescent_KernelIdeal := fun m ρ _ =>
  (θ_run Cert.KernelIdeal.defs _ _).mono (fun _ h => ⟨fun c => (h.1 c).2, h.2⟩) (Cert.RingIdeal.run_result (F := Ideal) m ρ)

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device's block of the kernel's result is its block of the reference's. -/
theorem algebraic [Cert.Pre_finite_KernelIdeal.Facts] : Cert.algebraic_KernelIdeal_ReferenceIdeal_pre_finite_KernelIdeal :=
  fun m g m' g' h hb => ⟨Cert.ReferenceIdeal.Value.res_main_v27 (F := Ideal) m' 0,
    (θ_run Cert.KernelIdeal.defs _ _).mono (fun _ hr c => ⟨(hr.1 c).1.trans (Cert.Attn.meet m m' h hb c), (hr.1 c).2⟩)
      (Cert.RingIdeal.run_result (F := Ideal) m g),
    (θ_run Cert.ReferenceIdeal.defs _ _).mono (fun _ hr => hr 0) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Attn.pre_facts, Cert.Attn.pre_facts_ref,
    frame_kernel, frame_kernelIdeal, fun m g _ => frame_kernelIdeal m g trivial, frame_referenceIdeal,
    fun m g _ => frame_referenceIdeal m g trivial, trivial,
    @algebraic Cert.Attn.pre_facts⟩

end Cert.Proof

end
